-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_largest [hPre_one_largest : Cert.Pre_one_largest.Facts] (m : (ℓ : Loc Cert.KernelIdeal.nD Cert.KernelIdeal.τ Cert.KernelIdeal.sig) → Buf (Elt Ideal) ℓ) : Prop :=
  ∀ c : Dev Cert.KernelIdeal.nD,
    (Cert.Pre_one_largest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_largest [hPre_one_largest : Cert.Pre_one_largest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_largest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_largest [hKernelIdeal : Cert.KernelIdeal.Facts] [hPre_one_largest : Cert.Pre_one_largest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_largest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_largest [hReferenceIdeal : Cert.ReferenceIdeal.Facts] [hPre_one_largest : Cert.Pre_one_largest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_largest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_largest [hKernelIdeal : Cert.KernelIdeal.Facts] [hReferenceIdeal : Cert.ReferenceIdeal.Facts] [hPre_one_largest : Cert.Pre_one_largest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_largest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_largest : Cert.Pre_one_largest.Facts),
    quiescent_Kernel (hKernel := hKernel)
    ∧ quiescent_KernelIdeal (hKernelIdeal := hKernelIdeal)
    ∧ quiescent_KernelIdeal_pre_one_largest (hKernelIdeal := hKernelIdeal) (hPre_one_largest := hPre_one_largest)
    ∧ quiescent_ReferenceIdeal (hReferenceIdeal := hReferenceIdeal)
    ∧ quiescent_ReferenceIdeal_pre_one_largest (hReferenceIdeal := hReferenceIdeal) (hPre_one_largest := hPre_one_largest)
    ∧ preserves_Kernel_KernelIdeal
    ∧ algebraic_KernelIdeal_ReferenceIdeal_pre_one_largest (hKernelIdeal := hKernelIdeal) (hReferenceIdeal := hReferenceIdeal) (hPre_one_largest := hPre_one_largest)
-- ==== Pre_one_largest.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩

class Facts : Prop where
  reducesTo_S16384x1000_S16384_d1 : S16384x1000.ReducesTo [1] S16384
  h_S_ : 0 < S_.numel
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  natLt_1_32 : 1 < 32
  bcast_S_S16384 : S_.BroadcastsInDim S16384 (![] : Fin 0 → Fin S16384.rank)

variable [Facts]

def fn {F : FTy → Type} [FloatOps F] (main_arg0 : FVec F S16384x1000 .f32) (main_arg1 : IVec S16384 32) : IVec S16384 1 :=
  let main_cst : FVec F S_ .f32 := constant S_ .f32 0xFF800000#32
  let main_v0 : FVec F S16384 .f32 := (fun x v => Host.reduce FloatOps.maximumf x v reducesTo_S16384x1000_S16384_d1 h_S_) main_arg0 main_cst
  let main_v1 : FVec F S16384x1 .f32 := broadcastInDim S16384x1 ![0] bcast_S16384_S16384x1_0 main_v0
  let main_v2 : FVec F S16384x1000 .f32 := broadcastInDim S16384x1000 ![0, 1] bcast_S16384x1_S16384x1000_0_1 main_v1
  let main_v3 : IVec S16384x1000 1 := cmpf .oeq main_arg0 main_v2
  let main_v4 : IVec S16384x1000 32 := (extui 32 · natLt_1_32) main_v3
  let main_c : IVec S_ 32 := constantI S_ 32 0#32
  let main_v5 : IVec S16384 32 := (fun x v => Host.reduce IntOp.addi x v reducesTo_S16384x1000_S16384_d1 h_S_) main_v4 main_c
  let main_c_0 : IVec S_ 32 := constantI S_ 32 1#32
  let main_v6 : IVec S16384 32 := broadcastInDim S16384 ![] bcast_S_S16384 main_c_0
  let main_v7 : IVec S16384 1 := cmpi .eq main_v5 main_v6
  main_v7
-- ==== Kernel.lean ====
abbrev S16384x1000 : Shape := ⟨2, ![16384, 1000]⟩
abbrev S16384 : Shape := ⟨1, ![16384]⟩
abbrev S2x15 : Shape := ⟨2, ![2, 15]⟩
abbrev S16x1x1024 : Shape := ⟨3, ![16, 1, 1024]⟩
abbrev S1x1 : Shape := ⟨2, ![1, 1]⟩
abbrev S1024x1000 : Shape := ⟨2, ![1024, 1000]⟩
abbrev S1x1x1024 : Shape := ⟨3, ![1, 1, 1024]⟩
abbrev S3x15 : Shape := ⟨2, ![3, 15]⟩
abbrev S1x15 : Shape := ⟨2, ![1, 15]⟩
abbrev S1024 : Shape := ⟨1, ![1024]⟩
abbrev S1024x1 : Shape := ⟨2, ![1024, 1]⟩
abbrev S1024x15 : Shape := ⟨2, ![1024, 15]⟩
abbrev S15 : Shape := ⟨1, ![15]⟩
abbrev S1 : Shape := ⟨1, ![1]⟩

abbrev nBuf : Space → Nat
  | .hbm => 5
  | .vmem => 19
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S2x15, .f32⟩
  | .hbm, ⟨3, _⟩ => ⟨S16x1x1024, .i32⟩
  | .hbm, ⟨4, _⟩ => ⟨S1x1, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1024x1000, .f32⟩
  | .local _ .vmem, ⟨5, _⟩ => ⟨S1024x1000, .f32⟩
  | .local _ .vmem, ⟨6, _⟩ => ⟨S1024x1000, .f32⟩
  | .local _ .vmem, ⟨7, _⟩ => ⟨S1024x1000, .f32⟩
  | .local _ .vmem, ⟨8, _⟩ => ⟨S1x1x1024, .i32⟩
  | .local _ .vmem, ⟨9, _⟩ => ⟨S1x1x1024, .i32⟩
  | .local _ .vmem, ⟨10, _⟩ => ⟨S1x1x1024, .i32⟩
  | .local _ .vmem, ⟨11, _⟩ => ⟨S1x1x1024, .i32⟩
  | .local _ .vmem, ⟨12, _⟩ => ⟨S1x1x1024, .i32⟩
  | .local _ .vmem, ⟨13, _⟩ => ⟨S1x1x1024, .i32⟩
  | .local _ .vmem, ⟨14, _⟩ => ⟨S1x1x1024, .i32⟩
  | .local _ .vmem, ⟨15, _⟩ => ⟨S1x1x1024, .i32⟩
  | .local _ .vmem, ⟨16, _⟩ => ⟨S2x15, .f32⟩
  | .local _ .vmem, ⟨17, _⟩ => ⟨S1x1, .f32⟩
  | .local _ .vmem, ⟨18, _⟩ => ⟨S3x15, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v237 : BitVec 1 := Scalar.cmpi .eq arg0 c3_i32
  let v238 : BitVec 32 := Scalar.extui v237
  let c0_i32_101 : BitVec 32 := 0#32
  let v239 : BitVec 1 := Scalar.cmpi .ne v238 c0_i32_101
  v239

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x15 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 538
  | .vmem => 0
  | .smem => 0
  | _ => 0

abbrev hbmTy0_0 (i : Nat) : BufTy := match i % 128 with
  | 0 => ⟨S16384x1000, .f32⟩
  | 1 => ⟨S16384, .i32⟩
  | 2 => ⟨S_, .f32⟩
  | 3 => ⟨S16384, .f32⟩
  | 4 => ⟨S_, .f32⟩
  | 5 => ⟨S16384, .f32⟩
  | 6 => ⟨S16384, .f32⟩
  | 7 => ⟨S16384x1, .f32⟩
  | 8 => ⟨S16384x1000, .f32⟩
  | 9 => ⟨S16384x1000, .f32⟩
  | 10 => ⟨S16384x1000, .f32⟩
  | 11 => ⟨S_, .f32⟩
  | 12 => ⟨S16384, .f32⟩
  | 13 => ⟨S16384x1, .f32⟩
  | 14 => ⟨S16384x1000, .f32⟩
  | 15 => ⟨S16384x1000, .f32⟩
  | 16 => ⟨S_, .f32⟩
  | 17 => ⟨S16384, .f32⟩
  | 18 => ⟨S16384x1000, .i32⟩
  | 19 => ⟨S_, .f32⟩
  | 20 => ⟨S_, .i32⟩
  | 21 => ⟨S16384, .f32⟩
  | 22 => ⟨S16384, .i32⟩
  | 23 => ⟨S16384, .i1⟩
  | 24 => ⟨S16384, .f32⟩
  | 25 => ⟨S_, .f32⟩
  | 26 => ⟨S1, .f32⟩
  | 27 => ⟨S_, .f32⟩
  | 28 => ⟨S16384, .f32⟩
  | 29 => ⟨S16384, .i1⟩
  | 30 => ⟨S_, .f32⟩
  | 31 => ⟨S16384, .f32⟩
  | 32 => ⟨S16384, .i1⟩
  | 33 => ⟨S16384, .i1⟩
  | 34 => ⟨S16384, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S16384, .f32⟩
  | 44 => ⟨S_, .f32⟩
  | 45 => ⟨S_, .f32⟩
  | 46 => ⟨S_, .f32⟩
  | 47 => ⟨S16384, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S1, .f32⟩
  | 60 => ⟨S1, .f32⟩
  | 61 => ⟨S_, .f32⟩
  | 62 => ⟨S16384, .f32⟩
  | 63 => ⟨S16384, .i1⟩
  | 64 => ⟨S_, .f32⟩
  | 65 => ⟨S16384, .f32⟩
  | 66 => ⟨S16384, .i1⟩
  | 67 => ⟨S16384, .i1⟩
  | 68 => ⟨S16384, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S16384, .f32⟩
  | 78 => ⟨S_, .f32⟩
  | 79 => ⟨S_, .f32⟩
  | 80 => ⟨S_, .f32⟩
  | 81 => ⟨S16384, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S1, .f32⟩
  | 94 => ⟨S1, .f32⟩
  | 95 => ⟨S_, .f32⟩
  | 96 => ⟨S16384, .f32⟩
  | 97 => ⟨S16384, .i1⟩
  | 98 => ⟨S_, .f32⟩
  | 99 => ⟨S16384, .f32⟩
  | 100 => ⟨S16384, .i1⟩
  | 101 => ⟨S16384, .i1⟩
  | 102 => ⟨S16384, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16384, .f32⟩
  | 112 => ⟨S_, .f32⟩
  | 113 => ⟨S_, .f32⟩
  | 114 => ⟨S_, .f32⟩
  | 115 => ⟨S16384, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S1, .f32⟩
  | _ => ⟨S16384x1000, .f32⟩

abbrev hbmTy0_1 (i : Nat) : BufTy := match i % 128 with
  | 0 => ⟨S1, .f32⟩
  | 1 => ⟨S_, .f32⟩
  | 2 => ⟨S16384, .f32⟩
  | 3 => ⟨S16384, .i1⟩
  | 4 => ⟨S_, .f32⟩
  | 5 => ⟨S16384, .f32⟩
  | 6 => ⟨S16384, .i1⟩
  | 7 => ⟨S16384, .i1⟩
  | 8 => ⟨S16384, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S16384, .f32⟩
  | 18 => ⟨S_, .f32⟩
  | 19 => ⟨S_, .f32⟩
  | 20 => ⟨S_, .f32⟩
  | 21 => ⟨S16384, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .i1⟩
  | 30 => ⟨S_, .f32⟩
  | 31 => ⟨S_, .f32⟩
  | 32 => ⟨S_, .f32⟩
  | 33 => ⟨S1, .f32⟩
  | 34 => ⟨S1, .f32⟩
  | 35 => ⟨S_, .f32⟩
  | 36 => ⟨S16384, .f32⟩
  | 37 => ⟨S16384, .i1⟩
  | 38 => ⟨S_, .f32⟩
  | 39 => ⟨S16384, .f32⟩
  | 40 => ⟨S16384, .i1⟩
  | 41 => ⟨S16384, .i1⟩
  | 42 => ⟨S16384, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S16384, .f32⟩
  | 52 => ⟨S_, .f32⟩
  | 53 => ⟨S_, .f32⟩
  | 54 => ⟨S_, .f32⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S1, .f32⟩
  | 68 => ⟨S1, .f32⟩
  | 69 => ⟨S_, .f32⟩
  | 70 => ⟨S16384, .f32⟩
  | 71 => ⟨S16384, .i1⟩
  | 72 => ⟨S_, .f32⟩
  | 73 => ⟨S16384, .f32⟩
  | 74 => ⟨S16384, .i1⟩
  | 75 => ⟨S16384, .i1⟩
  | 76 => ⟨S16384, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S16384, .f32⟩
  | 86 => ⟨S_, .f32⟩
  | 87 => ⟨S_, .f32⟩
  | 88 => ⟨S_, .f32⟩
  | 89 => ⟨S16384, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S1, .f32⟩
  | 102 => ⟨S1, .f32⟩
  | 103 => ⟨S_, .f32⟩
  | 104 => ⟨S16384, .f32⟩
  | 105 => ⟨S16384, .i1⟩
  | 106 => ⟨S_, .f32⟩
  | 107 => ⟨S16384, .f32⟩
  | 108 => ⟨S16384, .i1⟩
  | 109 => ⟨S16384, .i1⟩
  | 110 => ⟨S16384, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S16384, .f32⟩
  | 120 => ⟨S_, .f32⟩
  | 121 => ⟨S_, .f32⟩
  | 122 => ⟨S_, .f32⟩
  | 123 => ⟨S16384, .f32⟩
  | 124 => ⟨S_, .f32⟩
  | 125 => ⟨S_, .f32⟩
  | 126 => ⟨S_, .f32⟩
  | 127 => ⟨S_, .f32⟩
  | _ => ⟨S16384x1000, .f32⟩

abbrev hbmTy0_2 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S1, .f32⟩
  | 8 => ⟨S1, .f32⟩
  | 9 => ⟨S_, .f32⟩
  | 10 => ⟨S16384, .f32⟩
  | 11 => ⟨S16384, .i1⟩
  | 12 => ⟨S_, .f32⟩
  | 13 => ⟨S16384, .f32⟩
  | 14 => ⟨S16384, .i1⟩
  | 15 => ⟨S16384, .i1⟩
  | 16 => ⟨S16384, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16384, .f32⟩
  | 26 => ⟨S_, .f32⟩
  | 27 => ⟨S_, .f32⟩
  | 28 => ⟨S_, .f32⟩
  | 29 => ⟨S16384, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S1, .f32⟩
  | 42 => ⟨S1, .f32⟩
  | 43 => ⟨S_, .f32⟩
  | 44 => ⟨S16384, .f32⟩
  | 45 => ⟨S16384, .i1⟩
  | 46 => ⟨S_, .f32⟩
  | 47 => ⟨S16384, .f32⟩
  | 48 => ⟨S16384, .i1⟩
  | 49 => ⟨S16384, .i1⟩
  | 50 => ⟨S16384, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S16384, .f32⟩
  | 60 => ⟨S_, .f32⟩
  | 61 => ⟨S_, .f32⟩
  | 62 => ⟨S_, .f32⟩
  | 63 => ⟨S16384, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .i1⟩
  | 72 => ⟨S_, .f32⟩
  | 73 => ⟨S_, .f32⟩
  | 74 => ⟨S_, .f32⟩
  | 75 => ⟨S1, .f32⟩
  | 76 => ⟨S1, .f32⟩
  | 77 => ⟨S_, .f32⟩
  | 78 => ⟨S16384, .f32⟩
  | 79 => ⟨S16384, .i1⟩
  | 80 => ⟨S_, .f32⟩
  | 81 => ⟨S16384, .f32⟩
  | 82 => ⟨S16384, .i1⟩
  | 83 => ⟨S16384, .i1⟩
  | 84 => ⟨S16384, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S16384, .f32⟩
  | 94 => ⟨S_, .f32⟩
  | 95 => ⟨S_, .f32⟩
  | 96 => ⟨S_, .f32⟩
  | 97 => ⟨S16384, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S1, .f32⟩
  | 110 => ⟨S1, .f32⟩
  | 111 => ⟨S_, .f32⟩
  | 112 => ⟨S16384, .f32⟩
  | 113 => ⟨S16384, .i1⟩
  | 114 => ⟨S_, .f32⟩
  | 115 => ⟨S16384, .f32⟩
  | 116 => ⟨S16384, .i1⟩
  | 117 => ⟨S16384, .i1⟩
  | 118 => ⟨S16384, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S16384, .f32⟩
  | _ => ⟨S16384x1000, .f32⟩

abbrev hbmTy0_3 (i : Nat) : BufTy := match i % 128 with
  | 0 => ⟨S_, .f32⟩
  | 1 => ⟨S_, .f32⟩
  | 2 => ⟨S_, .f32⟩
  | 3 => ⟨S16384, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S1, .f32⟩
  | 16 => ⟨S1, .f32⟩
  | 17 => ⟨S_, .f32⟩
  | 18 => ⟨S16384, .f32⟩
  | 19 => ⟨S16384, .i1⟩
  | 20 => ⟨S_, .f32⟩
  | 21 => ⟨S16384, .f32⟩
  | 22 => ⟨S16384, .i1⟩
  | 23 => ⟨S16384, .i1⟩
  | 24 => ⟨S16384, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S16384, .f32⟩
  | 34 => ⟨S_, .f32⟩
  | 35 => ⟨S_, .f32⟩
  | 36 => ⟨S_, .f32⟩
  | 37 => ⟨S16384, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S1, .f32⟩
  | 50 => ⟨S1, .f32⟩
  | 51 => ⟨S_, .f32⟩
  | 52 => ⟨S16384, .f32⟩
  | 53 => ⟨S16384, .i1⟩
  | 54 => ⟨S_, .f32⟩
  | 55 => ⟨S16384, .f32⟩
  | 56 => ⟨S16384, .i1⟩
  | 57 => ⟨S16384, .i1⟩
  | 58 => ⟨S16384, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S16384, .f32⟩
  | 68 => ⟨S_, .f32⟩
  | 69 => ⟨S_, .f32⟩
  | 70 => ⟨S_, .f32⟩
  | 71 => ⟨S16384, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S1, .f32⟩
  | 84 => ⟨S1, .f32⟩
  | 85 => ⟨S_, .f32⟩
  | 86 => ⟨S16384, .f32⟩
  | 87 => ⟨S16384, .i1⟩
  | 88 => ⟨S_, .f32⟩
  | 89 => ⟨S16384, .f32⟩
  | 90 => ⟨S16384, .i1⟩
  | 91 => ⟨S16384, .i1⟩
  | 92 => ⟨S16384, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S16384, .f32⟩
  | 102 => ⟨S_, .f32⟩
  | 103 => ⟨S_, .f32⟩
  | 104 => ⟨S_, .f32⟩
  | 105 => ⟨S16384, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S1, .f32⟩
  | 118 => ⟨S1, .f32⟩
  | 119 => ⟨S_, .f32⟩
  | 120 => ⟨S16384, .f32⟩
  | 121 => ⟨S16384, .i1⟩
  | 122 => ⟨S_, .f32⟩
  | 123 => ⟨S16384, .f32⟩
  | 124 => ⟨S16384, .i1⟩
  | 125 => ⟨S16384, .i1⟩
  | 126 => ⟨S16384, .f32⟩
  | 127 => ⟨S_, .f32⟩
  | _ => ⟨S16384x1000, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S16384, .f32⟩
  | 8 => ⟨S_, .f32⟩
  | 9 => ⟨S_, .f32⟩
  | 10 => ⟨S_, .f32⟩
  | 11 => ⟨S16384, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S1, .f32⟩
  | 24 => ⟨S1, .f32⟩
  | 25 => ⟨S1x1, .f32⟩
  | _ => ⟨S16384x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_12 : Ref sig .tc := ⟨.hbm, 54, rfl⟩
abbrev main_v35 : Ref sig .tc := ⟨.hbm, 55, rfl⟩
abbrev main_cst_13 : Ref sig .tc := ⟨.hbm, 56, rfl⟩
abbrev main_call1_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_14 : Ref sig .tc := ⟨.hbm, 61, rfl⟩
abbrev main_v39 : Ref sig .tc := ⟨.hbm, 62, rfl⟩
abbrev main_v40 : Ref sig .tc := ⟨.hbm, 63, rfl⟩
abbrev main_cst_15 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_16 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_cst_18 : Ref sig .tc := ⟨.hbm, 73, rfl⟩
abbrev main_v47 : Ref sig .tc := ⟨.hbm, 74, rfl⟩
abbrev main_cst_19 : Ref sig .tc := ⟨.hbm, 75, rfl⟩
abbrev main_v48 : Ref sig .tc := ⟨.hbm, 76, rfl⟩
abbrev main_v49 : Ref sig .tc := ⟨.hbm, 77, rfl⟩
abbrev main_cst_20 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_21 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_22 : Ref sig .tc := ⟨.hbm, 88, rfl⟩
abbrev main_v58 : Ref sig .tc := ⟨.hbm, 89, rfl⟩
abbrev main_cst_23 : Ref sig .tc := ⟨.hbm, 90, rfl⟩
abbrev main_call2_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_24 : Ref sig .tc := ⟨.hbm, 95, rfl⟩
abbrev main_v62 : Ref sig .tc := ⟨.hbm, 96, rfl⟩
abbrev main_v63 : Ref sig .tc := ⟨.hbm, 97, rfl⟩
abbrev main_cst_25 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_26 : Ref sig .tc := ⟨.hbm, 103, rfl⟩
abbrev main_v68 : Ref sig .tc := ⟨.hbm, 104, rfl⟩
abbrev main_cst_27 : Ref sig .tc := ⟨.hbm, 105, rfl⟩
abbrev main_v69 : Ref sig .tc := ⟨.hbm, 106, rfl⟩
abbrev main_cst_28 : Ref sig .tc := ⟨.hbm, 107, rfl⟩
abbrev main_v70 : Ref sig .tc := ⟨.hbm, 108, rfl⟩
abbrev main_cst_29 : Ref sig .tc := ⟨.hbm, 109, rfl⟩
abbrev main_v71 : Ref sig .tc := ⟨.hbm, 110, rfl⟩
abbrev main_v72 : Ref sig .tc := ⟨.hbm, 111, rfl⟩
abbrev main_cst_30 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_31 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_32 : Ref sig .tc := ⟨.hbm, 122, rfl⟩
abbrev main_v81 : Ref sig .tc := ⟨.hbm, 123, rfl⟩
abbrev main_cst_33 : Ref sig .tc := ⟨.hbm, 124, rfl⟩
abbrev main_call3_v0 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_34 : Ref sig .tc := ⟨.hbm, 129, rfl⟩
abbrev main_v85 : Ref sig .tc := ⟨.hbm, 130, rfl⟩
abbrev main_v86 : Ref sig .tc := ⟨.hbm, 131, rfl⟩
abbrev main_cst_35 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_36 : Ref sig .tc := ⟨.hbm, 137, rfl⟩
abbrev main_v91 : Ref sig .tc := ⟨.hbm, 138, rfl⟩
abbrev main_cst_37 : Ref sig .tc := ⟨.hbm, 139, rfl⟩
abbrev main_v92 : Ref sig .tc := ⟨.hbm, 140, rfl⟩
abbrev main_cst_38 : Ref sig .tc := ⟨.hbm, 141, rfl⟩
abbrev main_v93 : Ref sig .tc := ⟨.hbm, 142, rfl⟩
abbrev main_cst_39 : Ref sig .tc := ⟨.hbm, 143, rfl⟩
abbrev main_v94 : Ref sig .tc := ⟨.hbm, 144, rfl⟩
abbrev main_v95 : Ref sig .tc := ⟨.hbm, 145, rfl⟩
abbrev main_cst_40 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_41 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_42 : Ref sig .tc := ⟨.hbm, 156, rfl⟩
abbrev main_v104 : Ref sig .tc := ⟨.hbm, 157, rfl⟩
abbrev main_cst_43 : Ref sig .tc := ⟨.hbm, 158, rfl⟩
abbrev main_call4_v0 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_44 : Ref sig .tc := ⟨.hbm, 163, rfl⟩
abbrev main_v108 : Ref sig .tc := ⟨.hbm, 164, rfl⟩
abbrev main_v109 : Ref sig .tc := ⟨.hbm, 165, rfl⟩
abbrev main_cst_45 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_46 : Ref sig .tc := ⟨.hbm, 171, rfl⟩
abbrev main_v114 : Ref sig .tc := ⟨.hbm, 172, rfl⟩
abbrev main_cst_47 : Ref sig .tc := ⟨.hbm, 173, rfl⟩
abbrev main_v115 : Ref sig .tc := ⟨.hbm, 174, rfl⟩
abbrev main_cst_48 : Ref sig .tc := ⟨.hbm, 175, rfl⟩
abbrev main_v116 : Ref sig .tc := ⟨.hbm, 176, rfl⟩
abbrev main_cst_49 : Ref sig .tc := ⟨.hbm, 177, rfl⟩
abbrev main_v117 : Ref sig .tc := ⟨.hbm, 178, rfl⟩
abbrev main_v118 : Ref sig .tc := ⟨.hbm, 179, rfl⟩
abbrev main_cst_50 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_cst_51 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_52 : Ref sig .tc := ⟨.hbm, 190, rfl⟩
abbrev main_v127 : Ref sig .tc := ⟨.hbm, 191, rfl⟩
abbrev main_cst_53 : Ref sig .tc := ⟨.hbm, 192, rfl⟩
abbrev main_call5_v0 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_54 : Ref sig .tc := ⟨.hbm, 197, rfl⟩
abbrev main_v131 : Ref sig .tc := ⟨.hbm, 198, rfl⟩
abbrev main_v132 : Ref sig .tc := ⟨.hbm, 199, rfl⟩
abbrev main_cst_55 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_56 : Ref sig .tc := ⟨.hbm, 205, rfl⟩
abbrev main_v137 : Ref sig .tc := ⟨.hbm, 206, rfl⟩
abbrev main_cst_57 : Ref sig .tc := ⟨.hbm, 207, rfl⟩
abbrev main_v138 : Ref sig .tc := ⟨.hbm, 208, rfl⟩
abbrev main_cst_58 : Ref sig .tc := ⟨.hbm, 209, rfl⟩
abbrev main_v139 : Ref sig .tc := ⟨.hbm, 210, rfl⟩
abbrev main_cst_59 : Ref sig .tc := ⟨.hbm, 211, rfl⟩
abbrev main_v140 : Ref sig .tc := ⟨.hbm, 212, rfl⟩
abbrev main_v141 : Ref sig .tc := ⟨.hbm, 213, rfl⟩
abbrev main_cst_60 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_cst_61 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_62 : Ref sig .tc := ⟨.hbm, 224, rfl⟩
abbrev main_v150 : Ref sig .tc := ⟨.hbm, 225, rfl⟩
abbrev main_cst_63 : Ref sig .tc := ⟨.hbm, 226, rfl⟩
abbrev main_call6_v0 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_64 : Ref sig .tc := ⟨.hbm, 231, rfl⟩
abbrev main_v154 : Ref sig .tc := ⟨.hbm, 232, rfl⟩
abbrev main_v155 : Ref sig .tc := ⟨.hbm, 233, rfl⟩
abbrev main_cst_65 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_66 : Ref sig .tc := ⟨.hbm, 239, rfl⟩
abbrev main_v160 : Ref sig .tc := ⟨.hbm, 240, rfl⟩
abbrev main_cst_67 : Ref sig .tc := ⟨.hbm, 241, rfl⟩
abbrev main_v161 : Ref sig .tc := ⟨.hbm, 242, rfl⟩
abbrev main_cst_68 : Ref sig .tc := ⟨.hbm, 243, rfl⟩
abbrev main_v162 : Ref sig .tc := ⟨.hbm, 244, rfl⟩
abbrev main_cst_69 : Ref sig .tc := ⟨.hbm, 245, rfl⟩
abbrev main_v163 : Ref sig .tc := ⟨.hbm, 246, rfl⟩
abbrev main_v164 : Ref sig .tc := ⟨.hbm, 247, rfl⟩
abbrev main_cst_70 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_71 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_cst_72 : Ref sig .tc := ⟨.hbm, 258, rfl⟩
abbrev main_v173 : Ref sig .tc := ⟨.hbm, 259, rfl⟩
abbrev main_cst_73 : Ref sig .tc := ⟨.hbm, 260, rfl⟩
abbrev main_call7_v0 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_74 : Ref sig .tc := ⟨.hbm, 265, rfl⟩
abbrev main_v177 : Ref sig .tc := ⟨.hbm, 266, rfl⟩
abbrev main_v178 : Ref sig .tc := ⟨.hbm, 267, rfl⟩
abbrev main_cst_75 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_cst_76 : Ref sig .tc := ⟨.hbm, 273, rfl⟩
abbrev main_v183 : Ref sig .tc := ⟨.hbm, 274, rfl⟩
abbrev main_cst_77 : Ref sig .tc := ⟨.hbm, 275, rfl⟩
abbrev main_v184 : Ref sig .tc := ⟨.hbm, 276, rfl⟩
abbrev main_cst_78 : Ref sig .tc := ⟨.hbm, 277, rfl⟩
abbrev main_v185 : Ref sig .tc := ⟨.hbm, 278, rfl⟩
abbrev main_cst_79 : Ref sig .tc := ⟨.hbm, 279, rfl⟩
abbrev main_v186 : Ref sig .tc := ⟨.hbm, 280, rfl⟩
abbrev main_v187 : Ref sig .tc := ⟨.hbm, 281, rfl⟩
abbrev main_cst_80 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_cst_81 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_cst_82 : Ref sig .tc := ⟨.hbm, 292, rfl⟩
abbrev main_v196 : Ref sig .tc := ⟨.hbm, 293, rfl⟩
abbrev main_cst_83 : Ref sig .tc := ⟨.hbm, 294, rfl⟩
abbrev main_call8_v0 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_cst_84 : Ref sig .tc := ⟨.hbm, 299, rfl⟩
abbrev main_v200 : Ref sig .tc := ⟨.hbm, 300, rfl⟩
abbrev main_v201 : Ref sig .tc := ⟨.hbm, 301, rfl⟩
abbrev main_cst_85 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_cst_86 : Ref sig .tc := ⟨.hbm, 307, rfl⟩
abbrev main_v206 : Ref sig .tc := ⟨.hbm, 308, rfl⟩
abbrev main_cst_87 : Ref sig .tc := ⟨.hbm, 309, rfl⟩
abbrev main_v207 : Ref sig .tc := ⟨.hbm, 310, rfl⟩
abbrev main_cst_88 : Ref sig .tc := ⟨.hbm, 311, rfl⟩
abbrev main_v208 : Ref sig .tc := ⟨.hbm, 312, rfl⟩
abbrev main_cst_89 : Ref sig .tc := ⟨.hbm, 313, rfl⟩
abbrev main_v209 : Ref sig .tc := ⟨.hbm, 314, rfl⟩
abbrev main_v210 : Ref sig .tc := ⟨.hbm, 315, rfl⟩
abbrev main_cst_90 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_cst_91 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_cst_92 : Ref sig .tc := ⟨.hbm, 326, rfl⟩
abbrev main_v219 : Ref sig .tc := ⟨.hbm, 327, rfl⟩
abbrev main_cst_93 : Ref sig .tc := ⟨.hbm, 328, rfl⟩
abbrev main_call9_v0 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_cst_94 : Ref sig .tc := ⟨.hbm, 333, rfl⟩
abbrev main_v223 : Ref sig .tc := ⟨.hbm, 334, rfl⟩
abbrev main_v224 : Ref sig .tc := ⟨.hbm, 335, rfl⟩
abbrev main_cst_95 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_cst_96 : Ref sig .tc := ⟨.hbm, 341, rfl⟩
abbrev main_v229 : Ref sig .tc := ⟨.hbm, 342, rfl⟩
abbrev main_cst_97 : Ref sig .tc := ⟨.hbm, 343, rfl⟩
abbrev main_v230 : Ref sig .tc := ⟨.hbm, 344, rfl⟩
abbrev main_cst_98 : Ref sig .tc := ⟨.hbm, 345, rfl⟩
abbrev main_v231 : Ref sig .tc := ⟨.hbm, 346, rfl⟩
abbrev main_cst_99 : Ref sig .tc := ⟨.hbm, 347, rfl⟩
abbrev main_v232 : Ref sig .tc := ⟨.hbm, 348, rfl⟩
abbrev main_v233 : Ref sig .tc := ⟨.hbm, 349, rfl⟩
abbrev main_cst_100 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_cst_101 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_v240 : Ref sig .tc := ⟨.hbm, 358, rfl⟩
abbrev main_v241 : Ref sig .tc := ⟨.hbm, 359, rfl⟩
abbrev main_cst_102 : Ref sig .tc := ⟨.hbm, 360, rfl⟩
abbrev main_v242 : Ref sig .tc := ⟨.hbm, 361, rfl⟩
abbrev main_cst_103 : Ref sig .tc := ⟨.hbm, 362, rfl⟩
abbrev main_call10_v0 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_cst_104 : Ref sig .tc := ⟨.hbm, 367, rfl⟩
abbrev main_v246 : Ref sig .tc := ⟨.hbm, 368, rfl⟩
abbrev main_v247 : Ref sig .tc := ⟨.hbm, 369, rfl⟩
abbrev main_cst_105 : Ref sig .tc := ⟨.hbm, 370, rfl⟩
abbrev main_v248 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_cst_106 : Ref sig .tc := ⟨.hbm, 375, rfl⟩
abbrev main_v252 : Ref sig .tc := ⟨.hbm, 376, rfl⟩
abbrev main_cst_107 : Ref sig .tc := ⟨.hbm, 377, rfl⟩
abbrev main_v253 : Ref sig .tc := ⟨.hbm, 378, rfl⟩
abbrev main_cst_108 : Ref sig .tc := ⟨.hbm, 379, rfl⟩
abbrev main_v254 : Ref sig .tc := ⟨.hbm, 380, rfl⟩
abbrev main_cst_109 : Ref sig .tc := ⟨.hbm, 381, rfl⟩
abbrev main_v255 : Ref sig .tc := ⟨.hbm, 382, rfl⟩
abbrev main_v256 : Ref sig .tc := ⟨.hbm, 383, rfl⟩
abbrev main_cst_110 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_cst_111 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_v263 : Ref sig .tc := ⟨.hbm, 392, rfl⟩
abbrev main_v264 : Ref sig .tc := ⟨.hbm, 393, rfl⟩
abbrev main_cst_112 : Ref sig .tc := ⟨.hbm, 394, rfl⟩
abbrev main_v265 : Ref sig .tc := ⟨.hbm, 395, rfl⟩
abbrev main_cst_113 : Ref sig .tc := ⟨.hbm, 396, rfl⟩
abbrev main_call11_v0 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_cst_114 : Ref sig .tc := ⟨.hbm, 401, rfl⟩
abbrev main_v269 : Ref sig .tc := ⟨.hbm, 402, rfl⟩
abbrev main_v270 : Ref sig .tc := ⟨.hbm, 403, rfl⟩
abbrev main_cst_115 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_cst_116 : Ref sig .tc := ⟨.hbm, 409, rfl⟩
abbrev main_v275 : Ref sig .tc := ⟨.hbm, 410, rfl⟩
abbrev main_cst_117 : Ref sig .tc := ⟨.hbm, 411, rfl⟩
abbrev main_v276 : Ref sig .tc := ⟨.hbm, 412, rfl⟩
abbrev main_cst_118 : Ref sig .tc := ⟨.hbm, 413, rfl⟩
abbrev main_v277 : Ref sig .tc := ⟨.hbm, 414, rfl⟩
abbrev main_cst_119 : Ref sig .tc := ⟨.hbm, 415, rfl⟩
abbrev main_v278 : Ref sig .tc := ⟨.hbm, 416, rfl⟩
abbrev main_v279 : Ref sig .tc := ⟨.hbm, 417, rfl⟩
abbrev main_cst_120 : Ref sig .tc := ⟨.hbm, 418, rfl⟩
abbrev main_v280 : Ref sig .tc := ⟨.hbm, 419, rfl⟩
abbrev main_v281 : Ref sig .tc := ⟨.hbm, 420, rfl⟩
abbrev main_v282 : Ref sig .tc := ⟨.hbm, 421, rfl⟩
abbrev main_cst_121 : Ref sig .tc := ⟨.hbm, 422, rfl⟩
abbrev main_v283 : Ref sig .tc := ⟨.hbm, 423, rfl⟩
abbrev main_v284 : Ref sig .tc := ⟨.hbm, 424, rfl⟩
abbrev main_v285 : Ref sig .tc := ⟨.hbm, 425, rfl⟩
abbrev main_v286 : Ref sig .tc := ⟨.hbm, 426, rfl⟩
abbrev main_v287 : Ref sig .tc := ⟨.hbm, 427, rfl⟩
abbrev main_cst_122 : Ref sig .tc := ⟨.hbm, 428, rfl⟩
abbrev main_v288 : Ref sig .tc := ⟨.hbm, 429, rfl⟩
abbrev main_cst_123 : Ref sig .tc := ⟨.hbm, 430, rfl⟩
abbrev main_call12_v0 : Ref sig .tc := ⟨.hbm, 431, rfl⟩
abbrev main_v289 : Ref sig .tc := ⟨.hbm, 432, rfl⟩
abbrev main_v290 : Ref sig .tc := ⟨.hbm, 433, rfl⟩
abbrev main_v291 : Ref sig .tc := ⟨.hbm, 434, rfl⟩
abbrev main_cst_124 : Ref sig .tc := ⟨.hbm, 435, rfl⟩
abbrev main_v292 : Ref sig .tc := ⟨.hbm, 436, rfl⟩
abbrev main_v293 : Ref sig .tc := ⟨.hbm, 437, rfl⟩
abbrev main_cst_125 : Ref sig .tc := ⟨.hbm, 438, rfl⟩
abbrev main_v294 : Ref sig .tc := ⟨.hbm, 439, rfl⟩
abbrev main_v295 : Ref sig .tc := ⟨.hbm, 440, rfl⟩
abbrev main_v296 : Ref sig .tc := ⟨.hbm, 441, rfl⟩
abbrev main_v297 : Ref sig .tc := ⟨.hbm, 442, rfl⟩
abbrev main_cst_126 : Ref sig .tc := ⟨.hbm, 443, rfl⟩
abbrev main_v298 : Ref sig .tc := ⟨.hbm, 444, rfl⟩
abbrev main_cst_127 : Ref sig .tc := ⟨.hbm, 445, rfl⟩
abbrev main_v299 : Ref sig .tc := ⟨.hbm, 446, rfl⟩
abbrev main_cst_128 : Ref sig .tc := ⟨.hbm, 447, rfl⟩
abbrev main_v300 : Ref sig .tc := ⟨.hbm, 448, rfl⟩
abbrev main_cst_129 : Ref sig .tc := ⟨.hbm, 449, rfl⟩
abbrev main_v301 : Ref sig .tc := ⟨.hbm, 450, rfl⟩
abbrev main_v302 : Ref sig .tc := ⟨.hbm, 451, rfl⟩
abbrev main_cst_130 : Ref sig .tc := ⟨.hbm, 452, rfl⟩
abbrev main_v303 : Ref sig .tc := ⟨.hbm, 453, rfl⟩
abbrev main_v304 : Ref sig .tc := ⟨.hbm, 454, rfl⟩
abbrev main_v305 : Ref sig .tc := ⟨.hbm, 455, rfl⟩
abbrev main_cst_131 : Ref sig .tc := ⟨.hbm, 456, rfl⟩
abbrev main_v306 : Ref sig .tc := ⟨.hbm, 457, rfl⟩
abbrev main_v307 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_cst_132 : Ref sig .tc := ⟨.hbm, 462, rfl⟩
abbrev main_v311 : Ref sig .tc := ⟨.hbm, 463, rfl⟩
abbrev main_cst_133 : Ref sig .tc := ⟨.hbm, 464, rfl⟩
abbrev main_call13_v0 : Ref sig .tc := ⟨.hbm, 465, rfl⟩
abbrev main_v312 : Ref sig .tc := ⟨.hbm, 466, rfl⟩
abbrev main_v313 : Ref sig .tc := ⟨.hbm, 467, rfl⟩
abbrev main_v314 : Ref sig .tc := ⟨.hbm, 468, rfl⟩
abbrev main_cst_134 : Ref sig .tc := ⟨.hbm, 469, rfl⟩
abbrev main_v315 : Ref sig .tc := ⟨.hbm, 470, rfl⟩
abbrev main_v316 : Ref sig .tc := ⟨.hbm, 471, rfl⟩
abbrev main_cst_135 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_cst_136 : Ref sig .tc := ⟨.hbm, 477, rfl⟩
abbrev main_v321 : Ref sig .tc := ⟨.hbm, 478, rfl⟩
abbrev main_cst_137 : Ref sig .tc := ⟨.hbm, 479, rfl⟩
abbrev main_v322 : Ref sig .tc := ⟨.hbm, 480, rfl⟩
abbrev main_cst_138 : Ref sig .tc := ⟨.hbm, 481, rfl⟩
abbrev main_v323 : Ref sig .tc := ⟨.hbm, 482, rfl⟩
abbrev main_cst_139 : Ref sig .tc := ⟨.hbm, 483, rfl⟩
abbrev main_v324 : Ref sig .tc := ⟨.hbm, 484, rfl⟩
abbrev main_v325 : Ref sig .tc := ⟨.hbm, 485, rfl⟩
abbrev main_cst_140 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_cst_141 : Ref sig .tc := ⟨.hbm, 490, rfl⟩
abbrev main_v329 : Ref sig .tc := ⟨.hbm, 491, rfl⟩
abbrev main_v330 : Ref sig .tc := ⟨.hbm, 492, rfl⟩
abbrev main_v331 : Ref sig .tc := ⟨.hbm, 493, rfl⟩
abbrev main_v332 : Ref sig .tc := ⟨.hbm, 494, rfl⟩
abbrev main_v333 : Ref sig .tc := ⟨.hbm, 495, rfl⟩
abbrev main_cst_142 : Ref sig .tc := ⟨.hbm, 496, rfl⟩
abbrev main_v334 : Ref sig .tc := ⟨.hbm, 497, rfl⟩
abbrev main_cst_143 : Ref sig .tc := ⟨.hbm, 498, rfl⟩
abbrev main_call14_v0 : Ref sig .tc := ⟨.hbm, 499, rfl⟩
abbrev main_v335 : Ref sig .tc := ⟨.hbm, 500, rfl⟩
abbrev main_v336 : Ref sig .tc := ⟨.hbm, 501, rfl⟩
abbrev main_v337 : Ref sig .tc := ⟨.hbm, 502, rfl⟩
abbrev main_cst_144 : Ref sig .tc := ⟨.hbm, 503, rfl⟩
abbrev main_v338 : Ref sig .tc := ⟨.hbm, 504, rfl⟩
abbrev main_v339 : Ref sig .tc := ⟨.hbm, 505, rfl⟩
abbrev main_cst_145 : Ref sig .tc := ⟨.hbm, 506, rfl⟩
abbrev main_v340 : Ref sig .tc := ⟨.hbm, 507, rfl⟩
abbrev main_v341 : Ref sig .tc := ⟨.hbm, 508, rfl⟩
abbrev main_v342 : Ref sig .tc := ⟨.hbm, 509, rfl⟩
abbrev main_v343 : Ref sig .tc := ⟨.hbm, 510, rfl⟩
abbrev main_cst_146 : Ref sig .tc := ⟨.hbm, 511, rfl⟩
abbrev main_v344 : Ref sig .tc := ⟨.hbm, 512, rfl⟩
abbrev main_cst_147 : Ref sig .tc := ⟨.hbm, 513, rfl⟩
abbrev main_v345 : Ref sig .tc := ⟨.hbm, 514, rfl⟩
abbrev main_cst_148 : Ref sig .tc := ⟨.hbm, 515, rfl⟩
abbrev main_v346 : Ref sig .tc := ⟨.hbm, 516, rfl⟩
abbrev main_cst_149 : Ref sig .tc := ⟨.hbm, 517, rfl⟩
abbrev main_v347 : Ref sig .tc := ⟨.hbm, 518, rfl⟩
abbrev main_v348 : Ref sig .tc := ⟨.hbm, 519, rfl⟩
abbrev main_cst_150 : Ref sig .tc := ⟨.hbm, 520, rfl⟩
abbrev main_v349 : Ref sig .tc := ⟨.hbm, 521, rfl⟩
abbrev main_v350 : Ref sig .tc := ⟨.hbm, 522, rfl⟩
abbrev main_v351 : Ref sig .tc := ⟨.hbm, 523, rfl⟩
abbrev main_cst_151 : Ref sig .tc := ⟨.hbm, 524, rfl⟩
abbrev main_v352 : Ref sig .tc := ⟨.hbm, 525, rfl⟩
abbrev main_v353 : Ref sig .tc := ⟨.hbm, 526, rfl⟩
abbrev main_v354 : Ref sig .tc := ⟨.hbm, 527, rfl⟩
abbrev main_v355 : Ref sig .tc := ⟨.hbm, 528, rfl⟩
abbrev main_v356 : Ref sig .tc := ⟨.hbm, 529, rfl⟩
abbrev main_cst_152 : Ref sig .tc := ⟨.hbm, 530, rfl⟩
abbrev main_v357 : Ref sig .tc := ⟨.hbm, 531, rfl⟩
abbrev main_cst_153 : Ref sig .tc := ⟨.hbm, 532, rfl⟩
abbrev main_call15_v0 : Ref sig .tc := ⟨.hbm, 533, rfl⟩
abbrev main_v358 : Ref sig .tc := ⟨.hbm, 534, rfl⟩
abbrev main_v359 : Ref sig .tc := ⟨.hbm, 535, rfl⟩
abbrev main_v360 : Ref sig .tc := ⟨.hbm, 536, rfl⟩
abbrev main_v361 : Ref sig .tc := ⟨.hbm, 537, rfl⟩

abbrev nD : Nat := 1
abbrev τ : Topo := Topo.v7x

variable {F : FTy → Type} [FloatOps F]
-- ==== Proof.RefRun.lean ====
/- The run of the reference program: its host operations as a short prefix (softmax, confidence, prediction, hits) followed by
   fifteen copies of one list of thirty-four operations, one copy per bin, and what the result buffer holds at the end. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## Typed references at a variable place of the HBM table -/

/-- The buffer at place `i` of the HBM table, as a typed reference. -/
def tr (T : BufTy) (i : ℕ) (h : i < 538) (ty : hbmTy i = T) : TRef sig T :=
  ⟨⟨.hbm, ⟨i, h⟩, rfl⟩, ty, fun e => Space.noConfusion e, rfl⟩

/-- References at different places differ. -/
theorem tr_ne {T T' : BufTy} {i j : ℕ} {h : i < 538} {h' : j < 538} {ty : hbmTy i = T} {ty' : hbmTy j = T'} (hij : i ≠ j) :
    (tr T i h ty).ref ≠ (tr T' j h' ty').ref := by
  intro e
  exact hij (congrArg (fun r : Ref sig .tc => r.idx.val) e)

/-- What a valuation holds at a typed reference, at the reference's type. -/
def rd {T : BufTy} (V : Valuation τ sig (Elt F)) (x : TRef sig T) : T.Contents (Elt F) :=
  x.ofBuf (V (Proc.devRef .tc x.ref))

section Reads

variable {T Ta Tb Tc Ty : BufTy} {x : TRef sig T} {a : TRef sig Ta} {b : TRef sig Tb} {c : TRef sig Tc} {y : TRef sig Ty}
  (V : Valuation τ sig (Elt F))

theorem rd_nullary (v : Ty.Contents (Elt F)) : rd ((TRef.nullary y v).result V) y = v := by
  unfold rd TRef.nullary; rw [nullary_result, TRef.ofBuf_toBuf]
theorem rd_unary (f : Ta.Contents (Elt F) → Ty.Contents (Elt F)) : rd ((TRef.unary a y f).result V) y = f (rd V a) := by
  unfold rd TRef.unary; rw [unary_result, TRef.ofBuf_toBuf]
theorem rd_binary (f : Ta.Contents (Elt F) → Tb.Contents (Elt F) → Ty.Contents (Elt F)) :
    rd ((TRef.binary a b y f).result V) y = f (rd V a) (rd V b) := by
  unfold rd TRef.binary; rw [binary_result, TRef.ofBuf_toBuf]
theorem rd_ternary (f : Ta.Contents (Elt F) → Tb.Contents (Elt F) → Tc.Contents (Elt F) → Ty.Contents (Elt F)) :
    rd ((TRef.ternary a b c y f).result V) y = f (rd V a) (rd V b) (rd V c) := by
  unfold rd TRef.ternary; rw [ternary_result, TRef.ofBuf_toBuf]

variable (h : x.ref ≠ y.ref)
include h
theorem rd_nullary_ne (v : Ty.Contents (Elt F)) : rd ((TRef.nullary y v).result V) x = rd V x := by
  unfold rd TRef.nullary; rw [nullary_result_ne]; exact h
theorem rd_unary_ne (f : Ta.Contents (Elt F) → Ty.Contents (Elt F)) : rd ((TRef.unary a y f).result V) x = rd V x := by
  unfold rd TRef.unary; rw [unary_result_ne]; exact h
theorem rd_binary_ne (f : Ta.Contents (Elt F) → Tb.Contents (Elt F) → Ty.Contents (Elt F)) :
    rd ((TRef.binary a b y f).result V) x = rd V x := by
  unfold rd TRef.binary; rw [binary_result_ne]; exact h
theorem rd_ternary_ne (f : Ta.Contents (Elt F) → Tb.Contents (Elt F) → Tc.Contents (Elt F) → Ty.Contents (Elt F)) :
    rd ((TRef.ternary a b c y f).result V) x = rd V x := by
  unfold rd TRef.ternary; rw [ternary_result_ne]; exact h

end Reads

/-! ## One bin -/

/-- The type of the `k`-th of a bin's thirty-four buffers. -/
def bTy (k : ℕ) : BufTy :=
  if k = 2 ∨ k = 5 ∨ k = 6 then ⟨S16384, .i1⟩
  else if k = 1 ∨ k = 4 ∨ k = 7 ∨ k = 16 ∨ k = 20 then ⟨S16384, .f32⟩
  else if k = 28 then ⟨S_, .i1⟩
  else if k = 32 ∨ k = 33 then ⟨S1, .f32⟩
  else ⟨S_, .f32⟩

/-- Every bin's buffers have these types: bin `n`'s lie at places `27 + 34 n`, …, `60 + 34 n`. -/
theorem bTy_eq : ∀ n : Fin 15, ∀ k : Fin 34, hbmTy (27 + 34 * n.val + k.val) = bTy k.val := by
  intro n k; fin_cases n <;> fin_cases k <;> rfl

/-- The running sum before bin `n`, at place `26 + 34 n`, has the result's type. -/
theorem sumTy_eq : ∀ n : Fin 16, hbmTy (26 + 34 * n.val) = ⟨S1, .f32⟩ := by
  intro n; fin_cases n <;> rfl

/-- Buffer `k` of bin `n`. -/
abbrev bt (T : BufTy) (n : ℕ) (hn : n < 15) (k : ℕ) (hk : k < 34 := by decide) (h : bTy k = T := by rfl) : TRef sig T :=
  tr T (27 + 34 * n + k) (by omega) ((bTy_eq ⟨n, hn⟩ ⟨k, hk⟩).trans h)

/-- The sum over the bins before bin `n`. -/
abbrev sumAt (n : ℕ) (hn : n ≤ 15) : TRef sig ⟨S1, .f32⟩ :=
  tr _ (26 + 34 * n) (by omega) (sumTy_eq ⟨n, Nat.lt_succ_of_le hn⟩)

/-- The sum after bin `n` is that bin's last buffer. -/
theorem sumAt_succ (n : ℕ) (hn : n < 15) : sumAt (n + 1) hn = bt ⟨S1, .f32⟩ n hn 33 := by
  have e : 26 + 34 * (n + 1) = 27 + 34 * n + 33 := by omega
  unfold sumAt bt
  congr 1

/-- The confidences and the hits. -/
abbrev confR : TRef sig ⟨S16384, .f32⟩ := tr _ 17 (by decide) rfl
abbrev hitR : TRef sig ⟨S16384, .f32⟩ := tr _ 24 (by decide) rfl

/-- The bins' bounds, as words: bin `n` is from bound `n` (excluded) to bound `n + 1` (included). -/
def bound : ℕ → BitVec 32
  | 0 => 0x00000000#32 | 1 => 0x3D888889#32 | 2 => 0x3E088889#32 | 3 => 0x3E4CCCCD#32 | 4 => 0x3E888889#32
  | 5 => 0x3EAAAAAB#32 | 6 => 0x3ECCCCCD#32 | 7 => 0x3EEEEEEF#32 | 8 => 0x3F088889#32 | 9 => 0x3F19999A#32
  | 10 => 0x3F2AAAAB#32 | 11 => 0x3F3BBBBC#32 | 12 => 0x3F4CCCCD#32 | 13 => 0x3F5DDDDE#32 | 14 => 0x3F6EEEEF#32
  | _ => 0x3F800000#32

/-- A bin's operations, over the confidences, the hits and the sum so far. -/
def binOps (n : ℕ) (hn : n < 15) : List (HloOp τ sig (Elt F)) :=
  [ TRef.nullary (bt ⟨S_, .f32⟩ n hn 0) (constant S_ .f32 (bound n)),
    TRef.unary (bt ⟨S_, .f32⟩ n hn 0) (bt ⟨S16384, .f32⟩ n hn 1) (broadcastInDim S16384 ![] bcast_S_S16384),
    TRef.binary confR (bt ⟨S16384, .f32⟩ n hn 1) (bt ⟨S16384, .i1⟩ n hn 2) (cmpf .ogt),
    TRef.nullary (bt ⟨S_, .f32⟩ n hn 3) (constant S_ .f32 (bound (n + 1))),
    TRef.unary (bt ⟨S_, .f32⟩ n hn 3) (bt ⟨S16384, .f32⟩ n hn 4) (broadcastInDim S16384 ![] bcast_S_S16384),
    TRef.binary confR (bt ⟨S16384, .f32⟩ n hn 4) (bt ⟨S16384, .i1⟩ n hn 5) (cmpf .ole),
    TRef.binary (bt ⟨S16384, .i1⟩ n hn 2) (bt ⟨S16384, .i1⟩ n hn 5) (bt ⟨S16384, .i1⟩ n hn 6) andi,
    TRef.unary (bt ⟨S16384, .i1⟩ n hn 6) (bt ⟨S16384, .f32⟩ n hn 7) (uitofp .f32),
    TRef.nullary (bt ⟨S_, .f32⟩ n hn 8) (constant S_ .f32 0x00000000#32),
    TRef.binary (bt ⟨S16384, .f32⟩ n hn 7) (bt ⟨S_, .f32⟩ n hn 8) (bt ⟨S_, .f32⟩ n hn 9) (fun x v => Host.reduceAdd x v reducesTo_S16384_S_d0 h_S_),
    TRef.nullary (bt ⟨S_, .f32⟩ n hn 10) (constant S_ .f32 0x46800000#32),
    TRef.binary (bt ⟨S_, .f32⟩ n hn 9) (bt ⟨S_, .f32⟩ n hn 10) (bt ⟨S_, .f32⟩ n hn 11) Host.divf,
    TRef.nullary (bt ⟨S_, .f32⟩ n hn 12) (constant S_ .f32 0x00000000#32),
    TRef.binary (bt ⟨S16384, .f32⟩ n hn 7) (bt ⟨S_, .f32⟩ n hn 12) (bt ⟨S_, .f32⟩ n hn 13) (fun x v => Host.reduceAdd x v reducesTo_S16384_S_d0 h_S_),
    TRef.nullary (bt ⟨S_, .f32⟩ n hn 14) (constant S_ .f32 0x3F800000#32),
    TRef.binary (bt ⟨S_, .f32⟩ n hn 13) (bt ⟨S_, .f32⟩ n hn 14) (bt ⟨S_, .f32⟩ n hn 15) maximumf,
    TRef.binary hitR (bt ⟨S16384, .f32⟩ n hn 7) (bt ⟨S16384, .f32⟩ n hn 16) mulf,
    TRef.nullary (bt ⟨S_, .f32⟩ n hn 17) (constant S_ .f32 0x00000000#32),
    TRef.binary (bt ⟨S16384, .f32⟩ n hn 16) (bt ⟨S_, .f32⟩ n hn 17) (bt ⟨S_, .f32⟩ n hn 18) (fun x v => Host.reduceAdd x v reducesTo_S16384_S_d0 h_S_),
    TRef.binary (bt ⟨S_, .f32⟩ n hn 18) (bt ⟨S_, .f32⟩ n hn 15) (bt ⟨S_, .f32⟩ n hn 19) Host.divf,
    TRef.binary confR (bt ⟨S16384, .f32⟩ n hn 7) (bt ⟨S16384, .f32⟩ n hn 20) mulf,
    TRef.nullary (bt ⟨S_, .f32⟩ n hn 21) (constant S_ .f32 0x00000000#32),
    TRef.binary (bt ⟨S16384, .f32⟩ n hn 20) (bt ⟨S_, .f32⟩ n hn 21) (bt ⟨S_, .f32⟩ n hn 22) (fun x v => Host.reduceAdd x v reducesTo_S16384_S_d0 h_S_),
    TRef.binary (bt ⟨S_, .f32⟩ n hn 22) (bt ⟨S_, .f32⟩ n hn 15) (bt ⟨S_, .f32⟩ n hn 23) Host.divf,
    TRef.binary (bt ⟨S_, .f32⟩ n hn 23) (bt ⟨S_, .f32⟩ n hn 19) (bt ⟨S_, .f32⟩ n hn 24) subf,
    TRef.unary (bt ⟨S_, .f32⟩ n hn 24) (bt ⟨S_, .f32⟩ n hn 25) Host.absf,
    TRef.binary (bt ⟨S_, .f32⟩ n hn 25) (bt ⟨S_, .f32⟩ n hn 11) (bt ⟨S_, .f32⟩ n hn 26) mulf,
    TRef.nullary (bt ⟨S_, .f32⟩ n hn 27) (constant S_ .f32 0x00000000#32),
    TRef.binary (bt ⟨S_, .f32⟩ n hn 13) (bt ⟨S_, .f32⟩ n hn 27) (bt ⟨S_, .i1⟩ n hn 28) (cmpf .ogt),
    TRef.nullary (bt ⟨S_, .f32⟩ n hn 29) (constant S_ .f32 0x00000000#32),
    TRef.unary (bt ⟨S_, .f32⟩ n hn 29) (bt ⟨S_, .f32⟩ n hn 30) id,
    TRef.ternary (bt ⟨S_, .i1⟩ n hn 28) (bt ⟨S_, .f32⟩ n hn 26) (bt ⟨S_, .f32⟩ n hn 30) (bt ⟨S_, .f32⟩ n hn 31) select,
    TRef.unary (bt ⟨S_, .f32⟩ n hn 31) (bt ⟨S1, .f32⟩ n hn 32) (broadcastInDim S1 ![] bcast_S_S1),
    TRef.binary (sumAt n (Nat.le_of_lt hn)) (bt ⟨S1, .f32⟩ n hn 32) (bt ⟨S1, .f32⟩ n hn 33) addf ]

/-- Which rows are in the bin from `lo` to `hi`: one where the confidence is, else zero. -/
def inBin (lo hi : BitVec 32) (conf : FVec F S16384 .f32) : FVec F S16384 .f32 :=
  uitofp .f32 (andi (cmpf .ogt conf (broadcastInDim S16384 ![] bcast_S_S16384 (constant S_ .f32 lo)))
    (cmpf .ole conf (broadcastInDim S16384 ![] bcast_S_S16384 (constant S_ .f32 hi))))

/-- The sum of a column. -/
def total (x : FVec F S16384 .f32) : FVec F S_ .f32 :=
  Host.reduceAdd x (constant S_ .f32 0x00000000#32) reducesTo_S16384_S_d0 h_S_

/-- What one bin adds: the distance of its mean confidence from its mean hit rate, weighted by its share of the rows. -/
def binTerm (lo hi : BitVec 32) (conf hit : FVec F S16384 .f32) : FVec F S_ .f32 :=
  select (cmpf .ogt (total (inBin lo hi conf)) (constant S_ .f32 0x00000000#32))
    (mulf (Host.absf (subf
        (Host.divf (total (mulf conf (inBin lo hi conf))) (maximumf (total (inBin lo hi conf)) (constant S_ .f32 0x3F800000#32)))
        (Host.divf (total (mulf hit (inBin lo hi conf))) (maximumf (total (inBin lo hi conf)) (constant S_ .f32 0x3F800000#32)))))
      (Host.divf (total (inBin lo hi conf)) (constant S_ .f32 0x46800000#32)))
    (constant S_ .f32 0x00000000#32)

set_option maxHeartbeats 4000000 in
/-- A bin's operations leave in its last buffer the sum so far plus the bin's term. -/
theorem binOps_sum (n : ℕ) (hn : n < 15) (V : Valuation τ sig (Elt F)) :
    rd (after (binOps n hn) V) (sumAt (n + 1) hn)
      = addf (rd V (sumAt n (Nat.le_of_lt hn))) (broadcastInDim S1 ![] bcast_S_S1 (binTerm (bound n) (bound (n + 1)) (rd V confR) (rd V hitR))) := by
  rw [sumAt_succ n hn]
  have e : ∀ {i j : ℕ}, i ≠ j → 27 + 34 * n + i ≠ 27 + 34 * n + j := fun h => by omega
  have e1 : ∀ {j : ℕ}, 17 ≠ 27 + 34 * n + j := by intro j; omega
  have e2 : ∀ {j : ℕ}, 24 ≠ 27 + 34 * n + j := by intro j; omega
  have e3 : ∀ {j : ℕ}, 26 + 34 * n ≠ 27 + 34 * n + j := by intro j; omega
  simp (discharger := first | exact tr_ne e1 | exact tr_ne e2 | exact tr_ne e3 | exact tr_ne (e (by decide))) only [binOps, after_cons, after_nil, rd_nullary, rd_unary, rd_binary, rd_ternary, rd_nullary_ne, rd_unary_ne, rd_binary_ne, rd_ternary_ne]
  rfl

set_option maxHeartbeats 4000000 in
/-- A bin's operations write none of the places before its own. -/
theorem binOps_keep (n : ℕ) (hn : n < 15) (V : Valuation τ sig (Elt F)) {T : BufTy} {i : ℕ} {h : i < 538} {ty : hbmTy i = T} (hi : i < 27) :
    rd (after (binOps n hn) V) (tr T i h ty) = rd V (tr T i h ty) := by
  have e1 : ∀ {j : ℕ}, i ≠ 27 + 34 * n + j := by intro j; omega
  simp (discharger := exact tr_ne e1) only [binOps, after_cons, after_nil, rd_nullary_ne, rd_unary_ne, rd_binary_ne, rd_ternary_ne]

end Cert.RefRun

end
-- ==== Proof.RefMain.lean ====
module

public import proofs.«01_k».proof.Proof.RefRun

@[expose] public section

/-! The whole run of the reference: the operations before the bins, the fifteen bins, the reshape of
the result; that the program is this list; and what its buffers hold at the end. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The values before the bins -/

/-- The row maxima. -/
def rowMax (x : FVec F S16384x1000 .f32) : FVec F S16384 .f32 :=
  Host.reduce FloatOps.maximumf x (constant S_ .f32 0xFF800000#32) reducesTo_S16384x1000_S16384_d1 h_S_

/-- A column repeated along the rows. -/
def alongRow (v : FVec F S16384 .f32) : FVec F S16384x1000 .f32 :=
  broadcastInDim S16384x1000 ![0, 1] bcast_S16384x1_S16384x1000_0_1 (broadcastInDim S16384x1 ![0] bcast_S16384_S16384x1_0 v)

/-- The shifted exponentials. -/
def expd (x : FVec F S16384x1000 .f32) : FVec F S16384x1000 .f32 :=
  Host.exp (subf x (alongRow (maximumf
    (broadcastInDim S16384 ![] bcast_S_S16384 (constant S_ .f32 0xFF800000#32)) (rowMax x))))

/-- The softmax quotients. -/
def probs (x : FVec F S16384x1000 .f32) : FVec F S16384x1000 .f32 :=
  Host.divf (expd x) (alongRow (Host.reduceAdd (expd x) (constant S_ .f32 0x00000000#32) reducesTo_S16384x1000_S16384_d1 h_S_))

/-- The confidences. -/
def confOf (x : FVec F S16384x1000 .f32) : FVec F S16384 .f32 := rowMax (probs x)

/-- The predictions: the first largest quotient's column. -/
def predOf (x : FVec F S16384x1000 .f32) : IVec S16384 32 := fun j =>
  (Host.argReduce reducer_argmax_f32_i32 (probs x) (iotaInDim S16384x1000 32 1) (constant S_ .f32 0xFF800000#32)
    (constantI S_ 32 0#32) reducesTo_S16384x1000_S16384_d1 h_S_ j).2

/-- The hits: one where the prediction is the target, else zero. -/
def hitOf (x : FVec F S16384x1000 .f32) (t : IVec S16384 32) : FVec F S16384 .f32 := uitofp .f32 (cmpi .eq (predOf x) t)

/-- The sum of the first `n` bins' terms. -/
def sumOf (conf hit : FVec F S16384 .f32) : ℕ → FVec F S1 .f32
  | 0 => broadcastInDim S1 ![] bcast_S_S1 (constant S_ .f32 0x00000000#32)
  | n + 1 => addf (sumOf conf hit n) (broadcastInDim S1 ![] bcast_S_S1 (binTerm (bound n) (bound (n + 1)) conf hit))

/-- The reference's result. -/
def resultOf (x : FVec F S16384x1000 .f32) (t : IVec S16384 32) : FVec F S1x1 .f32 :=
  shapeCast S1x1 (sumOf (confOf x) (hitOf x t) 15) shapeCasts_S1_S1x1

/-! ## The operations -/

/-- One of the first buffers, at a literal place. -/
abbrev pt (T : BufTy) (i : ℕ) (h : i < 538 := by decide) (ty : hbmTy i = T := by rfl) : TRef sig T := tr T i h ty

/-- A row-wise maximum from a starting value, at the buffers' types. -/
abbrev rowFold : (⟨S16384x1000, .f32⟩ : BufTy).Contents (Elt F) → (⟨S_, .f32⟩ : BufTy).Contents (Elt F) → (⟨S16384, .f32⟩ : BufTy).Contents (Elt F) :=
  fun x v => Host.reduce FloatOps.maximumf x v reducesTo_S16384x1000_S16384_d1 h_S_

/-- The first row-wise operation, at typed references. -/
theorem fold_at_v0 (f : (⟨S16384x1000, .f32⟩ : BufTy).Contents (Elt F) → (⟨S_, .f32⟩ : BufTy).Contents (Elt F) → (⟨S16384, .f32⟩ : BufTy).Contents (Elt F)) :
    (binary main_arg0 main_cst main_v0 f : HloOp τ sig (Elt F)) = TRef.binary (pt ⟨S16384x1000, .f32⟩ 0) (pt ⟨S_, .f32⟩ 2) (pt ⟨S16384, .f32⟩ 3) f := rfl

/-- The second row-wise operation, at typed references. -/
theorem fold_at_v11 (f : (⟨S16384x1000, .f32⟩ : BufTy).Contents (Elt F) → (⟨S_, .f32⟩ : BufTy).Contents (Elt F) → (⟨S16384, .f32⟩ : BufTy).Contents (Elt F)) :
    (binary main_v10 main_cst_2 main_v11 f : HloOp τ sig (Elt F)) = TRef.binary (pt ⟨S16384x1000, .f32⟩ 15) (pt ⟨S_, .f32⟩ 16) (pt ⟨S16384, .f32⟩ 17) f := rfl

/-- The operations before the bins. -/
def preOps : List (HloOp τ sig (Elt F)) :=
  [ TRef.nullary (pt ⟨S_, .f32⟩ 2) (constant S_ .f32 0xFF800000#32),
    binary main_arg0 main_cst main_v0 rowFold,
    TRef.nullary (pt ⟨S_, .f32⟩ 4) (constant S_ .f32 0xFF800000#32),
    TRef.unary (pt ⟨S_, .f32⟩ 4) (pt ⟨S16384, .f32⟩ 5) (broadcastInDim S16384 ![] bcast_S_S16384),
    TRef.binary (pt ⟨S16384, .f32⟩ 5) (pt ⟨S16384, .f32⟩ 3) (pt ⟨S16384, .f32⟩ 6) maximumf,
    TRef.unary (pt ⟨S16384, .f32⟩ 6) (pt ⟨S16384x1, .f32⟩ 7) (broadcastInDim S16384x1 ![0] bcast_S16384_S16384x1_0),
    TRef.unary (pt ⟨S16384x1, .f32⟩ 7) (pt ⟨S16384x1000, .f32⟩ 8) (broadcastInDim S16384x1000 ![0, 1] bcast_S16384x1_S16384x1000_0_1),
    TRef.binary (pt ⟨S16384x1000, .f32⟩ 0) (pt ⟨S16384x1000, .f32⟩ 8) (pt ⟨S16384x1000, .f32⟩ 9) subf,
    TRef.unary (pt ⟨S16384x1000, .f32⟩ 9) (pt ⟨S16384x1000, .f32⟩ 10) Host.exp,
    TRef.nullary (pt ⟨S_, .f32⟩ 11) (constant S_ .f32 0x00000000#32),
    TRef.binary (pt ⟨S16384x1000, .f32⟩ 10) (pt ⟨S_, .f32⟩ 11) (pt ⟨S16384, .f32⟩ 12) (fun x v => Host.reduceAdd x v reducesTo_S16384x1000_S16384_d1 h_S_),
    TRef.unary (pt ⟨S16384, .f32⟩ 12) (pt ⟨S16384x1, .f32⟩ 13) (broadcastInDim S16384x1 ![0] bcast_S16384_S16384x1_0),
    TRef.unary (pt ⟨S16384x1, .f32⟩ 13) (pt ⟨S16384x1000, .f32⟩ 14) (broadcastInDim S16384x1000 ![0, 1] bcast_S16384x1_S16384x1000_0_1),
    TRef.binary (pt ⟨S16384x1000, .f32⟩ 10) (pt ⟨S16384x1000, .f32⟩ 14) (pt ⟨S16384x1000, .f32⟩ 15) Host.divf,
    TRef.nullary (pt ⟨S_, .f32⟩ 16) (constant S_ .f32 0xFF800000#32),
    binary main_v10 main_cst_2 main_v11 rowFold,
    TRef.nullary (pt ⟨S16384x1000, .i32⟩ 18) (iotaInDim S16384x1000 32 1),
    TRef.nullary (pt ⟨S_, .f32⟩ 19) (constant S_ .f32 0xFF800000#32),
    TRef.nullary (pt ⟨S_, .i32⟩ 20) (constantI S_ 32 0#32),
    TRef.quaternary (pt ⟨S16384x1000, .f32⟩ 15) (pt ⟨S16384x1000, .i32⟩ 18) (pt ⟨S_, .f32⟩ 19) (pt ⟨S_, .i32⟩ 20) (pt ⟨S16384, .f32⟩ 21) (fun x y u v j => (Host.argReduce reducer_argmax_f32_i32 x y u v reducesTo_S16384x1000_S16384_d1 h_S_ j).1),
    TRef.quaternary (pt ⟨S16384x1000, .f32⟩ 15) (pt ⟨S16384x1000, .i32⟩ 18) (pt ⟨S_, .f32⟩ 19) (pt ⟨S_, .i32⟩ 20) (pt ⟨S16384, .i32⟩ 22) (fun x y u v j => (Host.argReduce reducer_argmax_f32_i32 x y u v reducesTo_S16384x1000_S16384_d1 h_S_ j).2),
    TRef.binary (pt ⟨S16384, .i32⟩ 22) (pt ⟨S16384, .i32⟩ 1) (pt ⟨S16384, .i1⟩ 23) (cmpi .eq),
    TRef.unary (pt ⟨S16384, .i1⟩ 23) (pt ⟨S16384, .f32⟩ 24) (uitofp .f32),
    TRef.nullary (pt ⟨S_, .f32⟩ 25) (constant S_ .f32 0x00000000#32),
    TRef.unary (pt ⟨S_, .f32⟩ 25) (pt ⟨S1, .f32⟩ 26) (broadcastInDim S1 ![] bcast_S_S1) ]

/-- The last operation: the result's reshape. -/
def lastOp : HloOp τ sig (Elt F) := reshape main_v360 main_v361 (rfl : (.f32 : EltTy) = .f32) shapeCasts_S1_S1x1

/-- The first `n` bins' operations. -/
def binsTo : (n : ℕ) → n ≤ 15 → List (HloOp τ sig (Elt F))
  | 0, _ => []
  | n + 1, h => binsTo n (Nat.le_of_lt h) ++ binOps n h

/-- All operations. -/
def allOps : List (HloOp τ sig (Elt F)) := preOps ++ (binsTo 15 (le_refl _) ++ [lastOp])

set_option maxRecDepth 16384 in
set_option maxHeartbeats 8000000 in
/-- Window 0 of the program as a list of operations. -/
theorem window0 (c : Dev nD) : main_part0 (F := F) c = seq (preOps ++ (binOps 0 (by decide) ++ (binOps 1 (by decide)).take 6)) := rfl

set_option maxRecDepth 16384 in
set_option maxHeartbeats 8000000 in
/-- Window 1 of the program as a list of operations. -/
theorem window1 (c : Dev nD) : main_part1 (F := F) c = seq ((binOps 1 (by decide)).drop 6 ++ binOps 2 (by decide)) := rfl

set_option maxRecDepth 16384 in
set_option maxHeartbeats 8000000 in
/-- Window 2 of the program as a list of operations. -/
theorem window2 (c : Dev nD) : main_part2 (F := F) c = seq (binOps 3 (by decide) ++ (binOps 4 (by decide)).take 27) := rfl

set_option maxRecDepth 16384 in
set_option maxHeartbeats 8000000 in
/-- Window 3 of the program as a list of operations. -/
theorem window3 (c : Dev nD) : main_part3 (F := F) c = seq ((binOps 4 (by decide)).drop 27 ++ (binOps 5 (by decide) ++ (binOps 6 (by decide)).take 21)) := rfl

set_option maxRecDepth 16384 in
set_option maxHeartbeats 8000000 in
/-- Window 4 of the program as a list of operations. -/
theorem window4 (c : Dev nD) : main_part4 (F := F) c = seq ((binOps 6 (by decide)).drop 21 ++ (binOps 7 (by decide) ++ (binOps 8 (by decide)).take 15)) := rfl

set_option maxRecDepth 16384 in
set_option maxHeartbeats 8000000 in
/-- Window 5 of the program as a list of operations. -/
theorem window5 (c : Dev nD) : main_part5 (F := F) c = seq ((binOps 8 (by decide)).drop 15 ++ (binOps 9 (by decide) ++ (binOps 10 (by decide)).take 9)) := rfl

set_option maxRecDepth 16384 in
set_option maxHeartbeats 8000000 in
/-- Window 6 of the program as a list of operations. -/
theorem window6 (c : Dev nD) : main_part6 (F := F) c = seq ((binOps 10 (by decide)).drop 9 ++ (binOps 11 (by decide) ++ (binOps 12 (by decide)).take 3)) := rfl

set_option maxRecDepth 16384 in
set_option maxHeartbeats 8000000 in
/-- Window 7 of the program as a list of operations. -/
theorem window7 (c : Dev nD) : main_part7 (F := F) c = seq ((binOps 12 (by decide)).drop 3 ++ (binOps 13 (by decide)).take 30) := rfl

set_option maxRecDepth 16384 in
set_option maxHeartbeats 8000000 in
/-- Window 8 of the program as a list of operations. -/
theorem window8 (c : Dev nD) : main_part8 (F := F) c = seq ((binOps 13 (by decide)).drop 30 ++ (binOps 14 (by decide) ++ [lastOp])) := rfl

/-- A list cut in two, in front of a third. -/
theorem cut (k : ℕ) (l r : List (HloOp τ sig (Elt F))) : l.take k ++ (l.drop k ++ r) = l ++ r := by
  rw [← List.append_assoc, List.take_append_drop]

/-- The operations, window by window. -/
theorem allOps_windows : (allOps : List (HloOp τ sig (Elt F))) = (preOps ++ (binOps 0 (by decide) ++ (binOps 1 (by decide)).take 6)) ++ (((binOps 1 (by decide)).drop 6 ++ binOps 2 (by decide)) ++ ((binOps 3 (by decide) ++ (binOps 4 (by decide)).take 27) ++ (((binOps 4 (by decide)).drop 27 ++ (binOps 5 (by decide) ++ (binOps 6 (by decide)).take 21)) ++ (((binOps 6 (by decide)).drop 21 ++ (binOps 7 (by decide) ++ (binOps 8 (by decide)).take 15)) ++ (((binOps 8 (by decide)).drop 15 ++ (binOps 9 (by decide) ++ (binOps 10 (by decide)).take 9)) ++ (((binOps 10 (by decide)).drop 9 ++ (binOps 11 (by decide) ++ (binOps 12 (by decide)).take 3)) ++ (((binOps 12 (by decide)).drop 3 ++ (binOps 13 (by decide)).take 30) ++ (((binOps 13 (by decide)).drop 30 ++ (binOps 14 (by decide) ++ [lastOp])))))))))) := by
  simp only [allOps, binsTo, List.append_assoc, List.nil_append, cut]

set_option maxRecDepth 16384 in
/-- The program runs these operations in order. -/
theorem main_eq (c : Dev nD) : main (F := F) c = seq allOps := by
  rw [allOps_windows]
  generalize hp : (preOps : List (HloOp τ sig (Elt F))) = P
  rw [seq_append (P ++ (binOps 0 (by decide) ++ (binOps 1 (by decide)).take 6))]
  rw [seq_append ((binOps 1 (by decide)).drop 6 ++ binOps 2 (by decide))]
  rw [seq_append (binOps 3 (by decide) ++ (binOps 4 (by decide)).take 27)]
  rw [seq_append ((binOps 4 (by decide)).drop 27 ++ (binOps 5 (by decide) ++ (binOps 6 (by decide)).take 21))]
  rw [seq_append ((binOps 6 (by decide)).drop 21 ++ (binOps 7 (by decide) ++ (binOps 8 (by decide)).take 15))]
  rw [seq_append ((binOps 8 (by decide)).drop 15 ++ (binOps 9 (by decide) ++ (binOps 10 (by decide)).take 9))]
  rw [seq_append ((binOps 10 (by decide)).drop 9 ++ (binOps 11 (by decide) ++ (binOps 12 (by decide)).take 3))]
  rw [seq_append ((binOps 12 (by decide)).drop 3 ++ (binOps 13 (by decide)).take 30)]
  subst hp
  rw [← window0 c, ← window1 c, ← window2 c, ← window3 c, ← window4 c, ← window5 c, ← window6 c, ← window7 c, ← window8 c]
  rfl

/-! ## What the operations leave -/

/-- Operations one list after another. -/
theorem after_append' (a b : List (HloOp τ sig (Elt F))) (V : Valuation τ sig (Elt F)) :
    after (a ++ b) V = after b (after a V) := by
  induction a generalizing V with
  | nil => rfl
  | cons o a ih => exact ih _

/-- The first `n` bins leave every earlier place as it was. -/
theorem binsTo_keep (n : ℕ) (hn : n ≤ 15) (V : Valuation τ sig (Elt F)) {T : BufTy} {i : ℕ} {h : i < 538} {ty : hbmTy i = T}
    (hi : i < 26) : rd (after (binsTo n hn) V) (tr T i h ty) = rd V (tr T i h ty) := by
  induction n with
  | zero => rfl
  | succ n ih => rw [binsTo, after_append', binOps_keep n hn _ (by omega), ih]

/-- The first `n` bins leave the sum of their terms. -/
theorem binsTo_sum (n : ℕ) (hn : n ≤ 15) (V : Valuation τ sig (Elt F)) (h0 : rd V (sumAt 0 (Nat.zero_le _)) = sumOf (rd V confR) (rd V hitR) 0) :
    rd (after (binsTo n hn) V) (sumAt n hn) = sumOf (rd V confR) (rd V hitR) n := by
  induction n with
  | zero => exact h0
  | succ n ih =>
    rw [binsTo, after_append', binOps_sum, ih, sumOf, binsTo_keep _ _ _ (by decide), binsTo_keep _ _ _ (by decide)]

/-- A four-operand operation's result. -/
theorem rd_quaternary {Ta Tb Tc Te Ty : BufTy} {a : TRef sig Ta} {b : TRef sig Tb} {c : TRef sig Tc} {e : TRef sig Te} {y : TRef sig Ty}
    (V : Valuation τ sig (Elt F))
    (f : Ta.Contents (Elt F) → Tb.Contents (Elt F) → Tc.Contents (Elt F) → Te.Contents (Elt F) → Ty.Contents (Elt F)) :
    rd ((TRef.quaternary a b c e y f).result V) y = f (rd V a) (rd V b) (rd V c) (rd V e) := by
  unfold rd TRef.quaternary; rw [quaternary_result, TRef.ofBuf_toBuf]

/-- A four-operand operation keeps the other places. -/
theorem rd_quaternary_ne {T Ta Tb Tc Te Ty : BufTy} {x : TRef sig T} {a : TRef sig Ta} {b : TRef sig Tb} {c : TRef sig Tc} {e : TRef sig Te}
    {y : TRef sig Ty} (V : Valuation τ sig (Elt F)) (h : x.ref ≠ y.ref)
    (f : Ta.Contents (Elt F) → Tb.Contents (Elt F) → Tc.Contents (Elt F) → Te.Contents (Elt F) → Ty.Contents (Elt F)) :
    rd ((TRef.quaternary a b c e y f).result V) x = rd V x := by
  unfold rd TRef.quaternary; rw [quaternary_result_ne]; exact h

set_option maxHeartbeats 4000000 in
/-- The operations before the bins leave the confidences. -/
theorem pre_conf (V : Valuation τ sig (Elt F)) : rd (after preOps V) confR = confOf (rd V (pt ⟨S16384x1000, .f32⟩ 0)) := by
  simp (discharger := exact tr_ne (by decide)) only [preOps, fold_at_v0, fold_at_v11, after_cons, after_nil, rd_nullary, rd_unary, rd_binary, rd_quaternary,
    rd_nullary_ne, rd_unary_ne, rd_binary_ne, rd_quaternary_ne]
  rfl

set_option maxHeartbeats 4000000 in
/-- The operations before the bins leave the hits. -/
theorem pre_hit (V : Valuation τ sig (Elt F)) :
    rd (after preOps V) hitR = hitOf (rd V (pt ⟨S16384x1000, .f32⟩ 0)) (rd V (pt ⟨S16384, .i32⟩ 1)) := by
  simp (discharger := exact tr_ne (by decide)) only [preOps, fold_at_v0, fold_at_v11, after_cons, after_nil, rd_nullary, rd_unary, rd_binary, rd_quaternary,
    rd_nullary_ne, rd_unary_ne, rd_binary_ne, rd_quaternary_ne]
  rfl

set_option maxHeartbeats 4000000 in
/-- The operations before the bins leave the empty sum. -/
theorem pre_sum (V : Valuation τ sig (Elt F)) (conf hit : FVec F S16384 .f32) :
    rd (after preOps V) (sumAt 0 (Nat.zero_le _)) = sumOf conf hit 0 := by
  have e : sumAt 0 (Nat.zero_le _) = pt ⟨S1, .f32⟩ 26 := rfl
  rw [e]
  simp (discharger := exact tr_ne (by decide)) only [preOps, fold_at_v0, fold_at_v11, after_cons, after_nil, rd_nullary, rd_unary, rd_binary, rd_quaternary,
    rd_nullary_ne, rd_unary_ne, rd_binary_ne, rd_quaternary_ne]
  rfl

set_option maxHeartbeats 4000000 in
/-- The operations before the bins keep the arguments. -/
theorem pre_keep (V : Valuation τ sig (Elt F)) {T : BufTy} {i : ℕ} {h : i < 538} {ty : hbmTy i = T} (hi : i < 2) :
    rd (after preOps V) (tr T i h ty) = rd V (tr T i h ty) := by
  simp (discharger := exact tr_ne (by omega)) only [preOps, fold_at_v0, fold_at_v11, after_cons, after_nil,
    rd_nullary_ne, rd_unary_ne, rd_binary_ne, rd_quaternary_ne]

/-- All operations leave the result in the last buffer. -/
theorem all_result (V : Valuation τ sig (Elt F)) :
    after allOps V (Proc.devRef .tc main_v361)
      = resultOf (V (Proc.devRef .tc main_arg0)) (V (Proc.devRef .tc main_arg1)) := by
  have h := binsTo_sum 15 (le_refl _) (after (preOps (F := F)) V) (pre_sum V _ _)
  rw [pre_conf, pre_hit] at h
  have e : after allOps V (Proc.devRef .tc main_v361)
      = shapeCast S1x1 (rd (after (binsTo 15 (le_refl _)) (after preOps V)) (sumAt 15 (le_refl _))) shapeCasts_S1_S1x1 := by
    rw [allOps, after_append', after_append']
    generalize after (binsTo (F := F) 15 (le_refl _)) (after (preOps (F := F)) V) = W
    unfold lastOp
    rw [after_cons, after_nil, reshape_result]
    rfl
  rw [e, h]
  rfl

/-- The last operation keeps the first places. -/
theorem last_keep (W : Valuation τ sig (Elt F)) {T : BufTy} {i : ℕ} {h : i < 538} {ty : hbmTy i = T} (hi : i < 2) :
    rd (after [lastOp] W) (tr T i h ty) = rd W (tr T i h ty) := by
  unfold lastOp rd
  rw [after_cons, after_nil, reshape_result_ne]
  intro e
  have : i = 537 := congrArg (fun r : Ref sig .tc => r.idx.val) e
  omega

/-- All operations keep an argument. -/
theorem all_keep (V : Valuation τ sig (Elt F)) {T : BufTy} {i : ℕ} {h : i < 538} {ty : hbmTy i = T} (hi : i < 2) :
    rd (after allOps V) (tr T i h ty) = rd V (tr T i h ty) := by
  rw [allOps, after_append', after_append', last_keep _ hi, binsTo_keep _ _ _ (by omega), pre_keep V hi]

/-- All operations keep the logits. -/
theorem all_arg0 (V : Valuation τ sig (Elt F)) : after allOps V (Proc.devRef .tc main_arg0) = V (Proc.devRef .tc main_arg0) := by
  have h := all_keep V (T := ⟨S16384x1000, .f32⟩) (i := 0) (h := by decide) (ty := rfl) (by decide)
  generalize after allOps V = W at h ⊢
  exact h

/-- All operations keep the targets. -/
theorem all_arg1 (V : Valuation τ sig (Elt F)) : after allOps V (Proc.devRef .tc main_arg1) = V (Proc.devRef .tc main_arg1) := by
  have h := all_keep V (T := ⟨S16384, .i32⟩) (i := 1) (h := by decide) (ty := rfl) (by decide)
  generalize after allOps V = W at h ⊢
  exact h

/-! ## The run -/

/-- An operation of the list touches only buffers a tensor core names, and determines its results. -/
def Plain (op : HloOp τ sig (Elt F)) : Prop := op.bufs ⊆ tcRefs τ sig ∧ op.fresh = ∅

theorem plain_nullary {Ty : BufTy} (y : TRef sig Ty) (v : Ty.Contents (Elt F)) : Plain (TRef.nullary y v : HloOp τ sig (Elt F)) :=
  ⟨nullary_bufs_sub .., rfl⟩
theorem plain_unary {Ta Ty : BufTy} (a : TRef sig Ta) (y : TRef sig Ty) (f : Ta.Contents (Elt F) → Ty.Contents (Elt F)) :
    Plain (TRef.unary a y f : HloOp τ sig (Elt F)) := ⟨unary_bufs_sub .., rfl⟩
theorem plain_binary {Ta Tb Ty : BufTy} (a : TRef sig Ta) (b : TRef sig Tb) (y : TRef sig Ty)
    (f : Ta.Contents (Elt F) → Tb.Contents (Elt F) → Ty.Contents (Elt F)) : Plain (TRef.binary a b y f : HloOp τ sig (Elt F)) :=
  ⟨binary_bufs_sub .., rfl⟩
theorem plain_ternary {Ta Tb Tc Ty : BufTy} (a : TRef sig Ta) (b : TRef sig Tb) (c : TRef sig Tc) (y : TRef sig Ty)
    (f : Ta.Contents (Elt F) → Tb.Contents (Elt F) → Tc.Contents (Elt F) → Ty.Contents (Elt F)) :
    Plain (TRef.ternary a b c y f : HloOp τ sig (Elt F)) := ⟨ternary_bufs_sub .., rfl⟩
theorem plain_quaternary {Ta Tb Tc Te Ty : BufTy} (a : TRef sig Ta) (b : TRef sig Tb) (c : TRef sig Tc) (e : TRef sig Te) (y : TRef sig Ty)
    (f : Ta.Contents (Elt F) → Tb.Contents (Elt F) → Tc.Contents (Elt F) → Te.Contents (Elt F) → Ty.Contents (Elt F)) :
    Plain (TRef.quaternary a b c e y f : HloOp τ sig (Elt F)) := ⟨quaternary_bufs_sub .., rfl⟩

/-- The operations before the bins are plain. -/
theorem preOps_plain : ∀ op ∈ (preOps : List (HloOp τ sig (Elt F))), Plain op := by
  simp only [preOps, fold_at_v0, fold_at_v11, List.forall_mem_cons, plain_nullary, plain_unary, plain_binary, plain_quaternary, true_and, List.not_mem_nil,
    false_implies, implies_true]

/-- A bin's operations are plain. -/
theorem binOps_plain (n : ℕ) (hn : n < 15) : ∀ op ∈ (binOps n hn : List (HloOp τ sig (Elt F))), Plain op := by
  simp only [binOps, List.forall_mem_cons, plain_nullary, plain_unary, plain_binary, plain_ternary, true_and, List.not_mem_nil,
    false_implies, implies_true]

/-- The bins' operations are plain. -/
theorem binsTo_plain (n : ℕ) (hn : n ≤ 15) : ∀ op ∈ (binsTo n hn : List (HloOp τ sig (Elt F))), Plain op := by
  induction n with
  | zero => simp [binsTo]
  | succ n ih =>
    intro op h
    rcases List.mem_append.1 h with h | h
    · exact ih _ op h
    · exact binOps_plain n hn op h

/-- All operations are plain. -/
theorem allOps_plain : ∀ op ∈ (allOps : List (HloOp τ sig (Elt F))), Plain op := by
  intro op h
  rcases List.mem_append.1 h with h | h
  · exact preOps_plain op h
  rcases List.mem_append.1 h with h | h
  · exact binsTo_plain _ _ op h
  · rw [List.mem_singleton.1 h]
    exact ⟨reshape_bufs_sub .., rfl⟩

/-- The reference has no scoped buffer. -/
theorem no_scoped_refs : (Finset.univ.filter fun b : Ref sig .tc => b.isScoped) = ∅ := by decide
/-- The reference has no scoped semaphore. -/
theorem no_scoped_sems : (Finset.univ.filter fun sm : SemLoc sig => sm.isScoped .tc) = ∅ := by decide

/-- Every execution of the reference ends with the result in its last buffer and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v361)
          = resultOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v361).trans (all_result (launchContents m c)),
        (h c main_arg0).trans (all_arg0 (launchContents m c)), (h c main_arg1).trans (all_arg1 (launchContents m c))⟩)
    (run_seq no_scoped_refs no_scoped_sems defs main (fun _ => allOps) main_eq
      (fun _ => List.forall_iff_forall_mem.mpr fun op h => (allOps_plain op h).1) m ρ fun _ op h => (allOps_plain op h).2)

end Cert.RefRun

end
-- ==== Proof.KernelRows.lean ====
/- What one grid point does to the kernel's scratch, read row by row: each of the four row blocks adds one vector of fifteen
   bin totals to each of the scratch's three rows (counts, confidences, hits), and the last point computes the result from them. -/
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

noncomputable section

namespace Cert.KernelRows

open Cert.KernelIdeal Cert.KernelIdeal.Gen Idealize.ShloMosaic Idealize.ShloMosaic.TcCoe Idealize.SL.Sem

variable {F : FTy → Type} [FloatOps F]

/-- Row `r` of the scratch, as the rectangle its loads and stores go through. -/
abbrev row : Fin 3 → Rect S3x15
  | 0 => Rect.unit ![0, 0] S1x15.size inb_S3x15_S1x15_0_0
  | 1 => Rect.unit ![1, 0] S1x15.size inb_S3x15_S1x15_1_0
  | 2 => Rect.unit ![2, 0] S1x15.size inb_S3x15_S1x15_2_0

/-- A row of the scratch, read. -/
abbrev rowOf (r : Fin 3) (z : Vec F S3x15 .f32) : Vec F S1x15 .f32 :=
  match r with
  | 0 => View.ld z (row 0)
  | 1 => View.ld z (row 1)
  | 2 => View.ld z (row 2)

/-- The bins' lower bounds and upper bounds, as rows of the bounds block. -/
abbrev lower (b : Vec F S2x15 .f32) : Vec F S1x15 .f32 := View.ld b (Rect.unit ![0, 0] S1x15.size inb_S2x15_S1x15_0_0)
abbrev upper (b : Vec F S2x15 .f32) : Vec F S1x15 .f32 := View.ld b (Rect.unit ![1, 0] S1x15.size inb_S2x15_S1x15_1_0)

/-- Which bin each row of a block is in: rows by bins, one or zero. -/
abbrev member (b : Vec F S2x15 .f32) (x : Vec F S1024x1000 .f32) : FVec F S1024x15 .f32 := k0_pay6 (lower b) (upper b) x

/-- A block's bin totals for row `r` of the scratch: counts, confidences, hits. -/
def gain (r : Fin 3) (b : Vec F S2x15 .f32) (x : Vec F S1024x1000 .f32) (t : Vec F S1x1x1024 .i32) : FVec F S15 .f32 :=
  multiReduction .add [0] S15
    (match r with
      | 0 => member b x
      | 1 => mulf (member b x) (broadcastTo S1024x15 (k0_pay4 x) broadcasts_S1024x1_S1024x15)
      | 2 => mulf (member b x) (broadcastTo S1024x15 (k0_pay5 x t) broadcasts_S1024x1_S1024x15))
    0x00000000#32 reduces_S1024x15_S15 (.inl rfl) rfl

/-- Totals added to a row of the scratch. -/
def plus (old : Vec F S1x15 .f32) (d : FVec F S15 .f32) : Vec F S1x15 .f32 :=
  shapeCast S1x15 (addf (shapeCast S15 old shapeCasts_S1x15_S15) d) shapeCasts_S15_S1x15

/-- What one grid point leaves in row `r`: the four blocks' totals added in turn. -/
def next (r : Fin 3) (b : Vec F S2x15 .f32) (x0 x1 x2 x3 : Vec F S1024x1000 .f32) (t0 t1 t2 t3 : Vec F S1x1x1024 .i32)
    (old : Vec F S1x15 .f32) : Vec F S1x15 .f32 :=
  plus (plus (plus (plus old (gain r b x0 t0)) (gain r b x1 t1)) (gain r b x2 t2)) (gain r b x3 t3)

theorem hz2 : (![0, 0] : Fin 2 → ℕ) = fun _ => 0 := funext fun a => by fin_cases a <;> rfl
theorem hz3 : (![0, 0, 0] : Fin 3 → ℕ) = fun _ => 0 := funext fun a => by fin_cases a <;> rfl

section

variable (c : Dev nD) (i : grid0.Coords) (a1 : Memref sig .tc .vmem S1024x1000 .f32) (h1 : a1.IsWhole) (a2 : Memref sig .tc .vmem S1024x1000 .f32) (h2 : a2.IsWhole)
  (a3 : Memref sig .tc .vmem S1024x1000 .f32) (h3 : a3.IsWhole) (a4 : Memref sig .tc .vmem S1024x1000 .f32) (h4 : a4.IsWhole)
  (a5 : Memref sig .tc .vmem S1x1x1024 .i32) (h5 : a5.IsWhole) (a6 : Memref sig .tc .vmem S1x1x1024 .i32) (h6 : a6.IsWhole)
  (a7 : Memref sig .tc .vmem S1x1x1024 .i32) (h7 : a7.IsWhole) (a8 : Memref sig .tc .vmem S1x1x1024 .i32) (h8 : a8.IsWhole)
  (a9 : Memref sig .tc .vmem S2x15 .f32) (h9 : a9.IsWhole) (a10 : Memref sig .tc .vmem S1x1 .f32) (h10 : a10.IsWhole)
  (a11 : Memref sig .tc .vmem S3x15 .f32) (h11 : a11.IsWhole)
  (x0 x1 x2 x3 : Vec F S1024x1000 .f32) (t0 t1 t2 t3 : Vec F S1x1x1024 .i32) (b : Vec F S2x15 .f32) (z : Vec F S3x15 .f32)

/-- Reading a row of what a list of stores leaves is a load after those stores, through any view. -/
theorem rowOf_writes (v : View sig .tc .vmem S3x15 .f32) (v' : View sig .tc .vmem S3x15 .f32) (r : Fin 3) (L : List (View.Piece (Elt F) S3x15 .f32)) :
    rowOf r (v.read (Elt F) (v.writes (Elt F) v.junk L)) = match r with
      | 0 => v'.readCov L (row 0).toLoadRect | 1 => v'.readCov L (row 1).toLoadRect | 2 => v'.readCov L (row 2).toLoadRect := by
  rw [View.read_writes_junk_eq_canon]
  match r with
  | 0 => exact (View.readCov_eq_canon' v' L (row 0).toLoadRect).symm
  | 1 => exact (View.readCov_eq_canon' v' L (row 1).toLoadRect).symm
  | 2 => exact (View.readCov_eq_canon' v' L (row 2).toLoadRect).symm

set_option maxHeartbeats 4000000 in
/-- A middle point's effect on each row. -/
theorem row_B (hc0 : ¬cond0_0 i) (hc1 : ¬cond0_1 i) (r : Fin 3) :
    rowOf r (sout0_B_0 c i a1 h1 a2 h2 a3 h3 a4 h4 a5 h5 a6 h6 a7 h7 a8 h8 a9 h9 a10 h10 a11 h11 hc0 hc1 x0 x1 x2 x3 t0 t1 t2 t3 b z)
      = next r b x0 x1 x2 x3 t0 t1 t2 t3 (rowOf r z) := by
  unfold sout0_B_0 kernelRun0_B
  rw [rowOf_writes VS0_0 a11.view]
  dsimp only
  sl_unfold_words
  fin_cases r
  all_goals
    dsimp only
    simp (discharger := decide) only [↓View.readCov_skip, View.readCov_cons_toLoadRect, View.readAt_eq_ld, h1.read_unread, h2.read_unread, h3.read_unread, h4.read_unread,
      h5.read_unread, h6.read_unread, h7.read_unread, h8.read_unread, h9.read_unread, h11.read_unread,
      View.ld_unit_zero (S := S1024x1000) hz2, View.ld_unit_zero (S := S1x1x1024) hz3]
    rfl

set_option maxHeartbeats 4000000 in
/-- The first point's effect on each row: it starts from zeros. -/
theorem row_A (hc0 : cond0_0 i) (hc1 : ¬cond0_1 i) (r : Fin 3) :
    rowOf r (sout0_A_0 c i a1 h1 a2 h2 a3 h3 a4 h4 a5 h5 a6 h6 a7 h7 a8 h8 a9 h9 a10 h10 a11 h11 hc0 hc1 x0 x1 x2 x3 t0 t1 t2 t3 b)
      = next r b x0 x1 x2 x3 t0 t1 t2 t3 (rowOf r k0_pay2) := by
  unfold sout0_A_0 kernelRun0_A
  rw [rowOf_writes VS0_0 a11.view]
  dsimp only
  sl_unfold_words
  fin_cases r
  all_goals
    dsimp only
    simp (discharger := decide) only [↓View.readCov_skip, View.readCov_cons_toLoadRect, View.readCov_fill, View.readAt_eq_ld, h1.read_unread, h2.read_unread, h3.read_unread, h4.read_unread,
      h5.read_unread, h6.read_unread, h7.read_unread, h8.read_unread, h9.read_unread, h11.read_unread,
      View.ld_unit_zero (S := S1024x1000) hz2, View.ld_unit_zero (S := S1x1x1024) hz3]
    rfl

set_option maxHeartbeats 4000000 in
/-- The result the last point computes, from the rows it leaves. -/
theorem out_C (hc0 : ¬cond0_0 i) (hc1 : cond0_1 i) :
    out0_C_9 c i a1 h1 a2 h2 a3 h3 a4 h4 a5 h5 a6 h6 a7 h7 a8 h8 a9 h9 a10 h10 a11 h11 hc0 hc1 x0 x1 x2 x3 t0 t1 t2 t3 b z
      = k0_pay1 (next 0 b x0 x1 x2 x3 t0 t1 t2 t3 (rowOf 0 z)) (next 1 b x0 x1 x2 x3 t0 t1 t2 t3 (rowOf 1 z)) (next 2 b x0 x1 x2 x3 t0 t1 t2 t3 (rowOf 2 z)) := by
  unfold out0_C_9 kernelRun0_C
  rw [View.read_writes_junk_eq_canon]
  dsimp only
  sl_unfold_words
  rw [View.canon_unit_zero (S := S1x1) hz2]
  simp (discharger := decide) only [↓View.readCov_skip, View.readCov_cons_toLoadRect, View.readCov_fill, View.readAt_eq_ld, h1.read_unread, h2.read_unread, h3.read_unread, h4.read_unread,
    h5.read_unread, h6.read_unread, h7.read_unread, h8.read_unread, h9.read_unread, h11.read_unread,
    View.ld_unit_zero (S := S1024x1000) hz2, View.ld_unit_zero (S := S1x1x1024) hz3]
  rfl

end

end Cert.KernelRows

end
-- ==== Proof.KernelFold.lean ====
module

public import proofs.«01_k».proof.Proof.KernelRows
public import proofs.«01_k».proof.Proof.Gen.KernelIdeal.Value
public import Idealize.ShloMosaic.Lib.Pointwise

@[expose] public section

/-! The kernel's four grid points folded: the result array as the final formula over the three rows the
points leave, and each block a point reads as the rows of the arguments it holds. -/

set_option maxRecDepth 16384

noncomputable section

namespace Cert.KernelFold

open Cert.KernelIdeal Cert.KernelIdeal.Gen Idealize.ShloMosaic Idealize.ShloMosaic.TcCoe Idealize.SL.Sem
open Cert.KernelRows

variable {F : FTy → Type} [FloatOps F] (m : (ℓ : Loc nD τ sig) → Buf (Elt F) ℓ)

/-- Point `t`'s `k`-th block of logits. -/
def xblk (c : Dev nD) (t : Fin cfg0.N) : Fin 4 → Vec F S1024x1000 .f32
  | 0 => iblk m c 0 t | 1 => iblk m c 1 t | 2 => iblk m c 2 t | 3 => iblk m c 3 t

/-- Point `t`'s `k`-th block of targets. -/
def tblk (c : Dev nD) (t : Fin cfg0.N) : Fin 4 → Vec F S1x1x1024 .i32
  | 0 => iblk m c 4 t | 1 => iblk m c 5 t | 2 => iblk m c 6 t | 3 => iblk m c 7 t

/-- The bins' bounds as point `t` reads them. -/
def bblk (c : Dev nD) (t : Fin cfg0.N) : Vec F S2x15 .f32 := iblk m c 8 t

/-- What point `t` makes of row `r` of the scratch. -/
def step (c : Dev nD) (r : Fin 3) (t : Fin cfg0.N) (old : Vec F S1x15 .f32) : Vec F S1x15 .f32 :=
  next r (bblk m c t) (xblk m c t 0) (xblk m c t 1) (xblk m c t 2) (xblk m c t 3)
    (tblk m c t 0) (tblk m c t 1) (tblk m c t 2) (tblk m c t 3) old

/-- The first point's rows. -/
theorem scratch_first (c : Dev nD) (t : Fin cfg0.N) (h0 : t.val % 4 = 0) (h1 : ¬t.val % 4 = 3) (r : Fin 3) :
    rowOf r (outsAt0 m c t.val t.isLt).2 = step m c r t (rowOf r k0_pay2) := by
  rw [outsAt0_A m c t h0 h1]
  dsimp only
  exact row_A (F := F) ..

/-- A middle point's rows. -/
theorem scratch_middle (c : Dev nD) (t : Fin cfg0.N) (h0 : ¬t.val % 4 = 0) (h1 : ¬t.val % 4 = 3) (r : Fin 3) :
    rowOf r (outsAt0 m c t.val t.isLt).2
      = step m c r t (rowOf r (outsAt0 m c (t.val - 1) (Nat.lt_of_le_of_lt (Nat.sub_le _ _) t.isLt)).2) := by
  rw [outsAt0_B m c t h0 h1]
  dsimp only
  exact row_B (F := F) ..

/-- The last point's result. -/
theorem result_last (c : Dev nD) (t : Fin cfg0.N) (h0 : ¬t.val % 4 = 0) (h1 : t.val % 4 = 3) :
    (outsAt0 m c t.val t.isLt).1
      = k0_pay1 (step m c 0 t (rowOf 0 (outsAt0 m c (t.val - 1) (Nat.lt_of_le_of_lt (Nat.sub_le _ _) t.isLt)).2))
          (step m c 1 t (rowOf 1 (outsAt0 m c (t.val - 1) (Nat.lt_of_le_of_lt (Nat.sub_le _ _) t.isLt)).2))
          (step m c 2 t (rowOf 2 (outsAt0 m c (t.val - 1) (Nat.lt_of_le_of_lt (Nat.sub_le _ _) t.isLt)).2)) := by
  rw [outsAt0_C m c t h0 h1]
  dsimp only
  exact out_C (F := F) ..

/-- A grid point by its number. -/
abbrev at_ (n : ℕ) (h : n < 4 := by decide) : Fin cfg0.N := ⟨n, lt_of_lt_of_eq h N_0.symm⟩

/-- Row `r` after all four points. -/
def total (c : Dev nD) (r : Fin 3) : Vec F S1x15 .f32 :=
  step m c r (at_ 3) (step m c r (at_ 2) (step m c r (at_ 1) (step m c r (at_ 0) (rowOf r k0_pay2))))

/-- The result array. -/
theorem result_eq (c : Dev nD) : Value.G9 m c = k0_pay1 (total m c 0) (total m c 1) (total m c 2) := by
  have hrow : ∀ r : Fin 3, rowOf r (outsAt0 m c 2 (at_ 2).isLt).2
      = step m c r (at_ 2) (step m c r (at_ 1) (step m c r (at_ 0) (rowOf r k0_pay2))) := fun r => by
    rw [scratch_middle m c (at_ 2) (by decide) (by decide) r, ← scratch_first m c (at_ 0) (by decide) (by decide) r]
    congr 1
    exact scratch_middle m c (at_ 1) (by decide) (by decide) r
  rw [Value.G9_last, ← Value.outsAt0_sweep m c 3 (at_ 3).isLt, result_last m c (at_ 3) (by decide) (by decide)]
  unfold total
  rw [← hrow 0, ← hrow 1, ← hrow 2]
  rfl

/-! ## The blocks -/

theorem pos_lt (t : Fin cfg0.N) (k : Fin 4) (r : Fin 1024) : 4096 * t.val + 1024 * k.val + r.val < 16384 := by
  have : t.val < 4 := lt_of_lt_of_eq t.isLt N_0
  omega

/-- The argument row a block's row is: four blocks of 1024 rows at each point. -/
def pos (t : Fin cfg0.N) (k : Fin 4) (r : Fin 1024) : Fin 16384 := ⟨4096 * t.val + 1024 * k.val + r.val, pos_lt t k r⟩

/-- The logits' and targets' block numbers. -/
theorem block_index : ∀ t : Fin cfg0.N,
    (win0_0.index t 0 = 4 * t.val ∧ win0_0.index t 1 = 0) ∧ (win0_1.index t 0 = 4 * t.val + 1 ∧ win0_1.index t 1 = 0)
    ∧ (win0_2.index t 0 = 4 * t.val + 2 ∧ win0_2.index t 1 = 0) ∧ (win0_3.index t 0 = 4 * t.val + 3 ∧ win0_3.index t 1 = 0)
    ∧ (win0_4.index t 0 = 4 * t.val ∧ win0_4.index t 1 = 0 ∧ win0_4.index t 2 = 0)
    ∧ (win0_5.index t 0 = 4 * t.val + 1 ∧ win0_5.index t 1 = 0 ∧ win0_5.index t 2 = 0)
    ∧ (win0_6.index t 0 = 4 * t.val + 2 ∧ win0_6.index t 1 = 0 ∧ win0_6.index t 2 = 0)
    ∧ (win0_7.index t 0 = 4 * t.val + 3 ∧ win0_7.index t 1 = 0 ∧ win0_7.index t 2 = 0)
    ∧ (win0_8.index t 0 = 0 ∧ win0_8.index t 1 = 0) :=
  (by decide +kernel : ∀ t : Fin grid0.N, _)

/-- A block of logits holds the argument's rows. -/
theorem xblk_apply (c : Dev nD) (t : Fin cfg0.N) (k : Fin 4) (r : Fin 1024) (l : Fin 1000) :
    xblk m c t k (ix2 r l) = (m ((c : Thread nD τ).loc main_arg0) : Vec F S16384x1000 .f32) (ix2 (pos t k r) l) := by
  obtain ⟨⟨a0, b0⟩, ⟨a1, b1⟩, ⟨a2, b2⟩, ⟨a3, b3⟩, -⟩ := block_index t
  rw [← V_main_arg0 m c]
  match k with
  | 0 =>
    show iblk m c 0 t (ix2 r l) = _
    unfold iblk
    rw [View.read_apply]
    show V m c main_arg0 _ = V m c main_arg0 _
    congr 1
    funext d
    apply Fin.ext
    match d with
    | ⟨0, _⟩ => show win0_0.index t 0 * 1024 + 1 * r.val = 4096 * t.val + 1024 * 0 + r.val; rw [a0]; omega
    | ⟨1, _⟩ => show win0_0.index t 1 * 1000 + 1 * l.val = l.val; rw [b0]; omega
  | 1 =>
    show iblk m c 1 t (ix2 r l) = _
    unfold iblk
    rw [View.read_apply]
    show V m c main_arg0 _ = V m c main_arg0 _
    congr 1
    funext d
    apply Fin.ext
    match d with
    | ⟨0, _⟩ => show win0_1.index t 0 * 1024 + 1 * r.val = 4096 * t.val + 1024 * 1 + r.val; rw [a1]; omega
    | ⟨1, _⟩ => show win0_1.index t 1 * 1000 + 1 * l.val = l.val; rw [b1]; omega
  | 2 =>
    show iblk m c 2 t (ix2 r l) = _
    unfold iblk
    rw [View.read_apply]
    show V m c main_arg0 _ = V m c main_arg0 _
    congr 1
    funext d
    apply Fin.ext
    match d with
    | ⟨0, _⟩ => show win0_2.index t 0 * 1024 + 1 * r.val = 4096 * t.val + 1024 * 2 + r.val; rw [a2]; omega
    | ⟨1, _⟩ => show win0_2.index t 1 * 1000 + 1 * l.val = l.val; rw [b2]; omega
  | 3 =>
    show iblk m c 3 t (ix2 r l) = _
    unfold iblk
    rw [View.read_apply]
    show V m c main_arg0 _ = V m c main_arg0 _
    congr 1
    funext d
    apply Fin.ext
    match d with
    | ⟨0, _⟩ => show win0_3.index t 0 * 1024 + 1 * r.val = 4096 * t.val + 1024 * 3 + r.val; rw [a3]; omega
    | ⟨1, _⟩ => show win0_3.index t 1 * 1000 + 1 * l.val = l.val; rw [b3]; omega

/-- What the two operations before the kernel leave in the targets' array and in the bounds' array. -/
theorem host_ops (W : Valuation τ sig (Elt F)) (v : main_cst.ty.Contents (Elt F)) :
    (StableHlo.after [StableHlo.nullary main_cst v,
        StableHlo.reshape main_arg1 main_v0 (rfl : (.i32 : EltTy) = .i32) shapeCasts_S16384_S16x1x1024] W (Proc.devRef .tc main_v0) : Vec F S16x1x1024 .i32)
      = shapeCast S16x1x1024 (W (Proc.devRef .tc main_arg1) : Vec F S16384 .i32) shapeCasts_S16384_S16x1x1024
    ∧ StableHlo.after [StableHlo.nullary main_cst v,
        StableHlo.reshape main_arg1 main_v0 (rfl : (.i32 : EltTy) = .i32) shapeCasts_S16384_S16x1x1024] W (Proc.devRef .tc main_cst) = v := by
  have hne : main_arg1 ≠ main_cst := by decide
  have hne' : main_cst ≠ main_v0 := by decide
  constructor
  · rw [StableHlo.after_cons, StableHlo.after_cons, StableHlo.after_nil, StableHlo.reshape_result, StableHlo.nullary_result_ne (h := hne)]
    rfl
  · rw [StableHlo.after_cons, StableHlo.after_cons, StableHlo.after_nil, StableHlo.reshape_result_ne (h := hne'), StableHlo.nullary_result]

/-- The targets as the kernel's array: the argument, reshaped to sixteen rows of 1024. -/
theorem targets (c : Dev nD) : (V m c main_v0 : Vec F S16x1x1024 .i32)
    = shapeCast S16x1x1024 (m ((c : Thread nD τ).loc main_arg1) : Vec F S16384 .i32) shapeCasts_S16384_S16x1x1024 :=
  (host_ops (fun b => m (c, b)) _).1

/-- The bounds array: the constant. -/
theorem bounds (c : Dev nD) : (V m c main_cst : Vec F S2x15 .f32) = fun i => FloatOps.ofBits .f32 (lit0 (S2x15.rowMajor i)) :=
  (host_ops (fun b => m (c, b)) _).2

/-- A block of targets holds the argument's targets. -/
theorem tblk_apply (c : Dev nD) (t : Fin cfg0.N) (k : Fin 4) (r : Fin 1024) :
    tblk m c t k (ix3 0 0 r) = (m ((c : Thread nD τ).loc main_arg1) : Vec F S16384 .i32) (ix1 (pos t k r)) := by
  obtain ⟨-, -, -, -, ⟨a0, b0, c0⟩, ⟨a1, b1, c1⟩, ⟨a2, b2, c2⟩, ⟨a3, b3, c3⟩, -⟩ := block_index t
  have ht : t.val < 4 := lt_of_lt_of_eq t.isLt N_0
  have h : tblk m c t k (ix3 0 0 r)
      = (V m c main_v0 : Vec F S16x1x1024 .i32) (ix3 ⟨4 * t.val + k.val, by omega⟩ 0 r) := by
    match k with
    | 0 =>
      show iblk m c 4 t (ix3 0 0 r) = _
      unfold iblk
      rw [View.read_apply]
      show V m c main_v0 _ = V m c main_v0 _
      congr 1
      funext d
      apply Fin.ext
      match d with
      | ⟨0, _⟩ => show win0_4.index t 0 * 1 + 1 * 0 = 4 * t.val + 0; rw [a0]; omega
      | ⟨1, _⟩ => show win0_4.index t 1 * 1 + 1 * 0 = 0; rw [b0]
      | ⟨2, _⟩ => show win0_4.index t 2 * 1024 + 1 * r.val = r.val; rw [c0]; omega
    | 1 =>
      show iblk m c 5 t (ix3 0 0 r) = _
      unfold iblk
      rw [View.read_apply]
      show V m c main_v0 _ = V m c main_v0 _
      congr 1
      funext d
      apply Fin.ext
      match d with
      | ⟨0, _⟩ => show win0_5.index t 0 * 1 + 1 * 0 = 4 * t.val + 1; rw [a1]; omega
      | ⟨1, _⟩ => show win0_5.index t 1 * 1 + 1 * 0 = 0; rw [b1]
      | ⟨2, _⟩ => show win0_5.index t 2 * 1024 + 1 * r.val = r.val; rw [c1]; omega
    | 2 =>
      show iblk m c 6 t (ix3 0 0 r) = _
      unfold iblk
      rw [View.read_apply]
      show V m c main_v0 _ = V m c main_v0 _
      congr 1
      funext d
      apply Fin.ext
      match d with
      | ⟨0, _⟩ => show win0_6.index t 0 * 1 + 1 * 0 = 4 * t.val + 2; rw [a2]; omega
      | ⟨1, _⟩ => show win0_6.index t 1 * 1 + 1 * 0 = 0; rw [b2]
      | ⟨2, _⟩ => show win0_6.index t 2 * 1024 + 1 * r.val = r.val; rw [c2]; omega
    | 3 =>
      show iblk m c 7 t (ix3 0 0 r) = _
      unfold iblk
      rw [View.read_apply]
      show V m c main_v0 _ = V m c main_v0 _
      congr 1
      funext d
      apply Fin.ext
      match d with
      | ⟨0, _⟩ => show win0_7.index t 0 * 1 + 1 * 0 = 4 * t.val + 3; rw [a3]; omega
      | ⟨1, _⟩ => show win0_7.index t 1 * 1 + 1 * 0 = 0; rw [b3]
      | ⟨2, _⟩ => show win0_7.index t 2 * 1024 + 1 * r.val = r.val; rw [c3]; omega
  rw [h, targets]
  pointwise
  congr 2
  apply Fin.ext
  show (4 * t.val + k.val) * 1024 + r.val = 4096 * t.val + 1024 * k.val + r.val
  omega

/-- The bounds block is the constant. -/
theorem bblk_apply (c : Dev nD) (t : Fin cfg0.N) (s : Fin 2) (j : Fin 15) :
    bblk m c t (ix2 s j) = FloatOps.ofBits .f32 (lit0 (S2x15.rowMajor (ix2 s j))) := by
  obtain ⟨-, -, -, -, -, -, -, -, a, b⟩ := block_index t
  have h : bblk m c t (ix2 s j) = (V m c main_cst : Vec F S2x15 .f32) (ix2 s j) := by
    unfold bblk iblk
    rw [View.read_apply]
    show V m c main_cst _ = V m c main_cst _
    congr 1
    funext d
    apply Fin.ext
    match d with
    | ⟨0, _⟩ => show win0_8.index t 0 * 2 + 1 * s.val = s.val; rw [a]; omega
    | ⟨1, _⟩ => show win0_8.index t 1 * 15 + 1 * j.val = j.val; rw [b]; omega
  rw [h, bounds]

end Cert.KernelFold

end
-- ==== Proof.Rows.lean ====
module

public import Idealize.ShloMosaic.Lib.Pointwise
public import Idealize.ShloMosaic.Lib.IndicatorCount
public import Idealize.ShloMosaic.PureOps.Reduce

@[expose] public section

/-! One row of logits over the extended reals. The kernel reads the confidence of a row as one over
the sum of the shifted exponentials, and the reference as the largest quotient. The kernel reads a
hit as the target's logit being the largest, the reference as the first largest quotient standing
at the target. This module compares the two when exactly one logit of the row is the largest. -/

set_option maxRecDepth 16384

noncomputable section

namespace Cert.Rows

open Idealize.ShloMosaic

variable {n : ℕ}

/-- The f32 word of minus infinity is the bottom value. -/
theorem ofBits_bot : Ideal.ofBits .f32 4286578688#32 = (⊥ : EReal) := by
  simp [Ideal.ofBits, Ideal.ieee]

/-- The largest logit of a row. -/
def top (x : Fin n → EReal) : EReal :=
  Finset.univ.fold max (Ideal.ofBits .f32 4286578688#32) x

/-- A running maximum started at minus infinity is the supremum. -/
theorem fold_max_eq_sup (x : Fin n → EReal) :
    Finset.univ.fold max (Ideal.ofBits .f32 4286578688#32) x = Finset.univ.sup x := by
  rw [ofBits_bot]; rfl

/-- Every logit is at most the largest. -/
theorem le_top' (x : Fin n → EReal) (k : Fin n) : x k ≤ top x := by
  rw [top, fold_max_eq_sup]; exact Finset.le_sup (Finset.mem_univ k)

/-- The sum of the shifted exponentials of a row. -/
def mass (x : Fin n → EReal) : EReal := ∑ k, Ideal.exp (x k - top x)

/-- The kernel's confidence. -/
def kconf (x : Fin n → EReal) : EReal := Ideal.div 1 (mass x)

/-- The kernel's hit: the target's logit, or minus infinity when no column is the target, is the
largest one. -/
def khit (x : Fin n → EReal) (t : BitVec 32) : Prop :=
  Finset.univ.fold max (Ideal.ofBits .f32 4286578688#32)
    (fun k : Fin n => Scalar.select (IntOp.cmpi .eq (BitVec.ofNat 32 k) t) (x k)
      (Ideal.ofBits .f32 4286578688#32)) = top x

/-- A softmax quotient of the reference. -/
def prob (x : Fin n → EReal) (k : Fin n) : EReal := Ideal.div (Ideal.exp (x k - top x)) (mass x)

/-- The reference's confidence. -/
def rconf (x : Fin n → EReal) : EReal :=
  Finset.univ.fold max (Ideal.ofBits .f32 4286578688#32) (prob x)

/-- One step of a first-largest search: the larger value wins, and a strictly larger one brings its
index along. -/
structure IsStep {α : Type} (f : EReal × α → EReal × α → EReal × α) : Prop where
  fst : ∀ a b, (f a b).1 = max a.1 b.1
  left : ∀ a b, b.1 < a.1 → f a b = a
  right : ∀ a b, a.1 < b.1 → f a b = b
  self : ∀ a, f a a = a

/-- A first-largest search over pairs, one of which is strictly above all others, ends at it. -/
theorem foldl_step {α : Type} {f : EReal × α → EReal × α → EReal × α} (hf : IsStep f)
    (p : EReal × α) (L : List (EReal × α)) (hL : ∀ q ∈ L, q = p ∨ q.1 < p.1) (a : EReal × α)
    (ha : a = p ∨ (a.1 < p.1 ∧ p ∈ L)) : L.foldl f a = p := by
  induction L generalizing a with
  | nil => simpa using ha
  | cons q L ih =>
    have hq := hL q (by simp)
    have hrest : ∀ q ∈ L, q = p ∨ q.1 < p.1 := fun r hr => hL r (by simp [hr])
    refine ih hrest _ ?_
    rcases ha with rfl | ⟨ha, hp⟩
    · left
      rcases hq with rfl | hq
      · exact hf.self _
      · exact hf.left _ _ hq
    · rcases hq with rfl | hq
      · exact .inl (hf.right _ _ ha)
      · right
        refine ⟨by rw [hf.fst]; exact max_lt ha hq, ?_⟩
        rcases List.mem_cons.1 hp with rfl | hp
        · exact absurd hq (lt_irrefl _)
        · exact hp

/-- The largest logit is the bottom value only when all of them are. -/
theorem all_of_top_bot {x : Fin n → EReal} (h : top x = ⊥) (k : Fin n) : x k = ⊥ :=
  le_bot_iff.1 (h ▸ le_top' x k)

/-- When exactly one logit is the largest and there are two columns or more, that logit is above
minus infinity. -/
theorem top_ne_bot {x : Fin n → EReal} {c : Fin n} (hn : 2 ≤ n) (hc : ∀ k, x k = top x ↔ k = c) :
    top x ≠ ⊥ := by
  intro h
  have h0 := (hc ⟨0, by omega⟩).1 (by rw [h]; exact all_of_top_bot h _)
  have h1 := (hc ⟨1, by omega⟩).1 (by rw [h]; exact all_of_top_bot h _)
  have := h0.trans h1.symm
  simp at this

/-- The kernel's hit of a row with exactly one largest logit: the target is that logit's column. -/
theorem khit_iff {x : Fin n → EReal} {c : Fin n} (hn : 2 ≤ n) (hc : ∀ k, x k = top x ↔ k = c)
    (t : BitVec 32) : khit x t ↔ BitVec.ofNat 32 c = t := by
  have hb := top_ne_bot hn hc
  unfold khit
  rw [fold_max_eq_sup, ofBits_bot]
  constructor
  · intro h
    by_contra hne
    have hlt : Finset.univ.sup (fun k : Fin n => Scalar.select
        (IntOp.cmpi .eq (BitVec.ofNat 32 k) t) (x k) ⊥) < top x := by
      rw [Finset.sup_lt_iff (bot_lt_iff_ne_bot.2 hb)]
      intro k _
      by_cases hk : BitVec.ofNat 32 (k : ℕ) = t
      · have hkc : k ≠ c := fun e => hne (e ▸ hk)
        have : x k < top x := lt_of_le_of_ne (le_top' x k) fun e => hkc ((hc k).1 e)
        simpa [Scalar.select, IntOp.cmpi, hk] using this
      · have hw : (BitVec.ofNat 32 (k : ℕ) == t) = false := by simpa using hk
        simpa [Scalar.select, IntOp.cmpi, hw] using bot_lt_iff_ne_bot.2 hb
    exact hlt.ne h
  · intro h
    apply le_antisymm
    · refine Finset.sup_le fun k _ => ?_
      by_cases hk : BitVec.ofNat 32 (k : ℕ) = t
      · simpa [Scalar.select, IntOp.cmpi, hk] using le_top' x k
      · have hw : (BitVec.ofNat 32 (k : ℕ) == t) = false := by simpa using hk
        simp [Scalar.select, IntOp.cmpi, hw]
    · have := Finset.le_sup (f := fun k : Fin n => Scalar.select
        (IntOp.cmpi .eq (BitVec.ofNat 32 k) t) (x k) ⊥) (Finset.mem_univ c)
      refine le_trans (le_of_eq ?_) this
      simp [Scalar.select, IntOp.cmpi, h, (hc c).2 rfl]

/-- The exponential of minus infinity is zero. -/
theorem exp_bot : Ideal.exp ⊥ = 0 := rfl

/-- A shifted exponential of a row whose largest logit is a number is a nonnegative number at most
one, and strictly below one off the largest. -/
theorem exp_shift {x : Fin n → EReal} {M : ℝ} (hM : top x = M) (k : Fin n) :
    ∃ r : ℝ, Ideal.exp (x k - top x) = r ∧ 0 ≤ r ∧ r ≤ 1 ∧ (x k = top x → r = 1)
      ∧ (x k ≠ top x → r < 1) := by
  have hk := le_top' x k
  rw [hM] at hk ⊢
  induction hx : x k using EReal.rec with
  | bot => exact ⟨0, by simp [exp_bot], by norm_num, by norm_num, by simp, by norm_num⟩
  | top => rw [hx] at hk; exact absurd hk (by simp)
  | coe r =>
    rw [hx] at hk
    have hr : r ≤ M := EReal.coe_le_coe_iff.1 hk
    refine ⟨Real.exp (r - M), by rw [← EReal.coe_sub]; rfl, (Real.exp_pos _).le,
      Real.exp_le_one_iff.2 (by linarith), fun h => ?_, fun h => ?_⟩
    · have : r = M := EReal.coe_injective h
      simp [this]
    · have : r ≠ M := fun e => h (by rw [e])
      exact Real.exp_lt_one_iff.2 (by have := lt_of_le_of_ne hr this; linarith)

/-- The quotients of a row whose largest logit is a number: the largest logit's is the kernel's
confidence, the others are strictly below. -/
theorem prob_of_real {x : Fin n → EReal} {c : Fin n} (hc : ∀ k, x k = top x ↔ k = c) {M : ℝ}
    (hM : top x = M) : prob x c = kconf x ∧ (∀ k, k ≠ c → prob x k < prob x c) ∧ prob x c ≠ ⊥ := by
  choose e he h0 h1 hone hlt using exp_shift hM
  have hmass : mass x = ((∑ k, e k : ℝ) : EReal) := by
    rw [mass, Finset.sum_congr rfl fun k _ => he k]
    exact (map_sum (⟨⟨Real.toEReal, EReal.coe_zero⟩, EReal.coe_add⟩ : ℝ →+ EReal) e _).symm
  have hec : e c = 1 := hone c ((hc c).2 rfl)
  have hpos : 0 < ∑ k, e k :=
    lt_of_lt_of_le (by rw [hec]; norm_num) (Finset.single_le_sum (fun k _ => h0 k) (Finset.mem_univ c))
  have hne : ((∑ k, e k : ℝ) : EReal) ≠ 0 := by
    rw [← EReal.coe_zero]; exact fun h => hpos.ne' (EReal.coe_injective h)
  have hp : ∀ k, prob x k = ((e k * (∑ k, e k)⁻¹ : ℝ) : EReal) := fun k => by
    rw [prob, he, hmass, Ideal.div, if_neg hne, EReal.coe_mul, EReal.coe_inv]
  refine ⟨?_, fun k hk => ?_, ?_⟩
  · rw [kconf, hp, hec, hmass, Ideal.div, if_neg hne, EReal.coe_mul, EReal.coe_inv]; rfl
  · rw [hp, hp, hec, EReal.coe_lt_coe_iff]
    exact mul_lt_mul_of_pos_right (hlt k fun h => hk ((hc k).1 h)) (inv_pos.2 hpos)
  · rw [hp]; exact EReal.coe_ne_bot _

/-- The reference's confidence when one quotient is above all others. -/
theorem rconf_eq {x : Fin n → EReal} {c : Fin n} (h : ∀ k, k ≠ c → prob x k < prob x c) :
    rconf x = prob x c := by
  rw [rconf, fold_max_eq_sup]
  refine le_antisymm (Finset.sup_le fun k _ => ?_) (Finset.le_sup (Finset.mem_univ c))
  by_cases hk : k = c
  · rw [hk]
  · exact (h k hk).le

/-- A row whose one largest logit is plus infinity: all shifted exponentials vanish, so the kernel's
confidence is plus infinity and the reference's is zero over zero, the bottom value. -/
theorem conf_of_top {x : Fin n → EReal} (h : top x = ⊤) : kconf x = ⊤ ∧ rconf x = ⊥ := by
  have he : ∀ k, Ideal.exp (x k - top x) = 0 := fun k => by
    rw [h]; simp [exp_bot]
  have hm : mass x = 0 := by rw [mass]; simp [he]
  refine ⟨by rw [kconf, hm]; simp [Ideal.div], ?_⟩
  rw [rconf, fold_max_eq_sup]
  refine le_bot_iff.1 (Finset.sup_le fun k _ => ?_)
  rw [prob, he, hm]; simp [Ideal.div]

/-- The two readings of a row with exactly one largest logit. Either the confidences agree and the
first-largest search over the quotients ends at the column the kernel's hit compares against, or
the confidences are the two infinities. -/
theorem agree {x : Fin n → EReal} {c : Fin n} (hn : 2 ≤ n) (hc : ∀ k, x k = top x ↔ k = c) :
    (rconf x = kconf x ∧ (∀ k, k ≠ c → prob x k < prob x c) ∧ prob x c ≠ ⊥)
      ∨ (kconf x = ⊤ ∧ rconf x = ⊥) := by
  have hb := top_ne_bot hn hc
  induction hM : top x using EReal.rec with
  | bot => exact absurd hM hb
  | top => exact .inr (conf_of_top hM)
  | coe M =>
    obtain ⟨h1, h2, h3⟩ := prob_of_real hc hM
    exact .inl ⟨(rconf_eq h2).trans h1, h2, h3⟩

/-- A count of one among the columns whose logit is the largest names one column. -/
theorem unique_of_count {x : Fin 1000 → EReal}
    (h : IntOp.cmpi .eq (Finset.univ.fold IntOp.addi (0#32) fun k =>
      BitVec.setWidth 32 (BitVec.ofBool (decide (x k = top x)))) 1#32 = 1#1) :
    ∃ c, ∀ k, x k = top x ↔ k = c := by
  have hcard := IndicatorCount.fold_addi_setWidth_eq_card (w := 32) (S := (Finset.univ : Finset (Fin 1000)))
    (p := fun k : Fin 1000 => BitVec.ofBool (decide (x k = top x)))
  rw [hcard] at h
  have hle : (Finset.univ.filter fun k : Fin 1000 => BitVec.ofBool (decide (x k = top x)) = 1#1).card
      ≤ 1000 := le_trans (Finset.card_filter_le _ _) (by simp)
  have hone : (Finset.univ.filter fun k : Fin 1000 =>
      BitVec.ofBool (decide (x k = top x)) = 1#1).card = 1 := by
    have h' : BitVec.ofNat 32 (Finset.univ.filter fun k : Fin 1000 =>
      BitVec.ofBool (decide (x k = top x)) = 1#1).card = 1#32 := by
      by_contra hne
      have hw := beq_eq_false_iff_ne.2 hne
      rw [IntOp.cmpi] at h
      simp only [hw] at h
      exact absurd h (by decide)
    have := congrArg BitVec.toNat h'
    rw [BitVec.toNat_ofNat, Nat.mod_eq_of_lt (by omega)] at this
    simpa using this
  obtain ⟨c, hcs⟩ := Finset.card_eq_one.1 hone
  refine ⟨c, fun k => ?_⟩
  have := Finset.ext_iff.1 hcs k
  rw [Finset.mem_filter, Finset.mem_singleton] at this
  rw [← this]
  by_cases hk : x k = top x <;> simp [hk]

end Cert.Rows

end
-- ==== Proof.EqualBase.lean ====
module

public import proofs.«01_k».proof.Proof.RefRun
public import proofs.«01_k».proof.Proof.Rows

@[expose] public section

/-! Indicators over the extended reals, and the bins. -/

noncomputable section

namespace Cert.Equal

open Idealize.ShloMosaic

/-- The logits' rows. -/
abbrev rowAt (x : (⟨2, ![16384, 1000]⟩ : Shape).Idx → EReal) (i : Fin 16384) : Fin 1000 → EReal := fun k => x (ix2 i k)

/-! ## Indicators -/

/-- An indicator. -/
def ind (p : Prop) [Decidable p] : EReal := if p then 1 else 0

/-- The kernel's indicator: a bit widened, then read as a signed integer. -/
theorem sitofp_ind (p : Prop) [Decidable p] :
    (FloatOps.sitofp (F := Ideal) .f32 (BitVec.setWidth 32 (BitVec.ofBool (decide p))) : EReal) = ind p := by
  by_cases h : p
  · simp only [h, ind, decide_true, if_true]
    show (((BitVec.setWidth 32 (BitVec.ofBool true)).toInt : ℝ) : EReal) = 1
    have : (BitVec.setWidth 32 (BitVec.ofBool true)).toInt = 1 := by decide
    rw [this]; norm_num
  · simp only [h, ind, decide_false, if_false]
    show (((BitVec.setWidth 32 (BitVec.ofBool false)).toInt : ℝ) : EReal) = 0
    have : (BitVec.setWidth 32 (BitVec.ofBool false)).toInt = 0 := by decide
    rw [this]; norm_num

/-- The reference's indicator: a bit read as an unsigned integer. -/
theorem uitofp_ind (p : Prop) [Decidable p] :
    (FloatOps.uitofp (F := Ideal) .f32 (BitVec.ofBool (decide p)) : EReal) = ind p := by
  by_cases h : p
  · simp only [h, ind, decide_true, if_true]
    show (((BitVec.ofBool true).toNat : ℝ) : EReal) = 1
    have : (BitVec.ofBool true).toNat = 1 := by decide
    rw [this]; norm_num
  · simp only [h, ind, decide_false, if_false]
    show (((BitVec.ofBool false).toNat : ℝ) : EReal) = 0
    have : (BitVec.ofBool false).toNat = 0 := by decide
    rw [this]; norm_num

/-- Two bits' conjunction. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-! ## The bins -/

/-- Whether a confidence is in bin `j`. -/
def InBin (j : ℕ) (v : EReal) : Prop :=
  Ideal.ofBits .f32 (RefRun.bound j) < v ∧ v ≤ Ideal.ofBits .f32 (RefRun.bound (j + 1))

instance (j : ℕ) (v : EReal) : Decidable (InBin j v) := Classical.propDecidable _

/-- The bins' upper bounds are numbers, so plus infinity is in no bin. -/
theorem not_inBin_top (j : Fin 15) : ¬ InBin j ⊤ := by
  rintro ⟨-, h⟩
  have h' := top_le_iff.1 h
  fin_cases j <;> simp [RefRun.bound, Ideal.ofBits, Ideal.ieee] at h' <;>
    exact EReal.coe_ne_top _ ((EReal.coe_mul _ _).trans h')

/-- Nor is minus infinity. -/
theorem not_inBin_bot (j : ℕ) : ¬ InBin j ⊥ := fun h => absurd h.1 not_lt_bot

/-- The kernel's weight of one row, the reciprocal of the number of rows. -/
theorem weight (a : EReal) :
    a * Ideal.ofBits .f32 947912704#32 = Ideal.div a (Ideal.ofBits .f32 1182793728#32) := by
  have h1 : Ideal.ofBits .f32 947912704#32 = (((1 / 16384 : ℝ)) : EReal) := by
    simp [Ideal.ofBits, Ideal.ieee]; rw [← EReal.coe_mul]; norm_num
  have h2 : Ideal.ofBits .f32 1182793728#32 = ((16384 : ℝ) : EReal) := by
    simp [Ideal.ofBits, Ideal.ieee]; rw [← EReal.coe_mul]; norm_num
  have h3 : ((16384 : ℝ) : EReal) ≠ 0 := by exact_mod_cast (by norm_num : (16384 : ℝ) ≠ 0)
  rw [h1, h2, Ideal.div, if_neg h3, ← EReal.coe_inv]
  norm_num

end Cert.Equal

end
-- ==== Proof.EqualKernel.lean ====
module

public import proofs.«01_k».proof.Proof.KernelFold
public import proofs.«01_k».proof.Proof.EqualBase

@[expose] public section

/-! The kernel's rows of totals over the extended reals: at each bin, a sum over all rows of the logits. -/

set_option maxRecDepth 16384

noncomputable section

namespace Cert.Equal

open Idealize.ShloMosaic

/-! ## Sums over the rows -/

/-- The sum over all rows, block by block. -/
theorem sum_blocks (h : Fin 16384 → EReal) :
    ∑ i, h i = ∑ a : Fin 16, ∑ r : Fin 1024, h ⟨1024 * a.val + r.val, by omega⟩ := by
  rw [← Fintype.sum_prod_type' (fun (a : Fin 16) (r : Fin 1024) => h ⟨1024 * a.val + r.val, by omega⟩)]
  refine (Fintype.sum_equiv (finProdFinEquiv (m := 16) (n := 1024)) _ _ fun p => ?_).symm
  congr 1
  apply Fin.ext
  show 1024 * p.1.val + p.2.val = p.2.val + 1024 * p.1.val
  omega

/-- A sum of sixteen, term after term from zero. -/
theorem sum_sixteen (g : Fin 16 → EReal) :
    ∑ a, g a = ((((((((((((((((0 : EReal) + g 0) + g 1) + g 2) + g 3) + g 4) + g 5) + g 6) + g 7) + g 8) + g 9)
      + g 10) + g 11) + g 12) + g 13) + g 14) + g 15 := by
  simp only [Fin.sum_univ_castSucc, Fin.sum_univ_zero]
  rfl

/-- The sixteen blocks added point after point, from zero. -/
theorem sum_points (h : Fin 16384 → EReal) :
    ∑ i, h i = (((((((((((((((((0 : EReal)
        + ∑ r, h (KernelFold.pos (KernelFold.at_ 0) 0 r)) + ∑ r, h (KernelFold.pos (KernelFold.at_ 0) 1 r))
        + ∑ r, h (KernelFold.pos (KernelFold.at_ 0) 2 r)) + ∑ r, h (KernelFold.pos (KernelFold.at_ 0) 3 r))
        + ∑ r, h (KernelFold.pos (KernelFold.at_ 1) 0 r)) + ∑ r, h (KernelFold.pos (KernelFold.at_ 1) 1 r))
        + ∑ r, h (KernelFold.pos (KernelFold.at_ 1) 2 r)) + ∑ r, h (KernelFold.pos (KernelFold.at_ 1) 3 r))
        + ∑ r, h (KernelFold.pos (KernelFold.at_ 2) 0 r)) + ∑ r, h (KernelFold.pos (KernelFold.at_ 2) 1 r))
        + ∑ r, h (KernelFold.pos (KernelFold.at_ 2) 2 r)) + ∑ r, h (KernelFold.pos (KernelFold.at_ 2) 3 r))
        + ∑ r, h (KernelFold.pos (KernelFold.at_ 3) 0 r)) + ∑ r, h (KernelFold.pos (KernelFold.at_ 3) 1 r))
        + ∑ r, h (KernelFold.pos (KernelFold.at_ 3) 2 r)) + ∑ r, h (KernelFold.pos (KernelFold.at_ 3) 3 r)) := by
  rw [sum_blocks, sum_sixteen]
  rfl

/-! ## The kernel's rows -/

section Kernel

open Cert.KernelIdeal Cert.KernelIdeal.Gen Cert.KernelRows

/-- The bounds' words at a bin. -/
theorem lower_word (j : Fin 15) : lit0 (S2x15.rowMajor (ix2 0 j)) = RefRun.bound j := by
  fin_cases j <;> rfl
theorem upper_word (j : Fin 15) : lit0 (S2x15.rowMajor (ix2 1 j)) = RefRun.bound (j + 1) := by
  fin_cases j <;> rfl

/-- The kernel's confidence of a row of a block. -/
theorem conf_apply (x : Vec Ideal S1024x1000 .f32) (r : Fin 1024) :
    k0_pay4 x (ix2 r 0) = Rows.kconf fun k : Fin 1000 => x (ix2 r k) := by
  pointwise [k0_pay4, k0_pay3]
  rfl

instance (x : Fin 1000 → EReal) (t : BitVec 32) : Decidable (Rows.khit x t) := Classical.propDecidable _

/-- The kernel's hit of a row of a block. -/
theorem hit_apply (x : Vec Ideal S1024x1000 .f32) (t : Vec Ideal S1x1x1024 .i32) (r : Fin 1024) :
    k0_pay5 x t (ix2 r 0) = ind (Rows.khit (fun k : Fin 1000 => x (ix2 r k)) (t (ix3 0 0 r))) := by
  pointwise [k0_pay5, k0_pay3]
  refine (sitofp_ind _).trans ?_
  unfold ind Rows.khit Rows.top
  congr

/-- The kernel's membership of a row of a block in a bin. -/
theorem member_apply (b : Vec Ideal S2x15 .f32) (x : Vec Ideal S1024x1000 .f32) (r : Fin 1024) (j : Fin 15)
    (hb : ∀ s : Fin 2, b (ix2 s j) = Ideal.ofBits .f32 (lit0 (S2x15.rowMajor (ix2 s j)))) :
    member b x (ix2 r j) = ind (InBin j (Rows.kconf fun k : Fin 1000 => x (ix2 r k))) := by
  pointwise [member, k0_pay6, lower, upper]
  rw [conf_apply, hb 0, hb 1, lower_word, upper_word, andi_ofBool]
  refine (sitofp_ind _).trans ?_
  unfold ind InBin
  congr

/-- What the kernel sums for scratch row `q` and bin `j`, at one row of the logits. -/
def kterm (q : Fin 3) (j : ℕ) (x : Fin 1000 → EReal) (t : BitVec 32) : EReal :=
  match q with
  | 0 => ind (InBin j (Rows.kconf x))
  | 1 => ind (InBin j (Rows.kconf x)) * Rows.kconf x
  | 2 => ind (InBin j (Rows.kconf x)) * ind (Rows.khit x t)

/-- A block's totals added to a scratch row. -/
theorem plus_apply (q : Fin 3) (b : Vec Ideal S2x15 .f32) (x : Vec Ideal S1024x1000 .f32) (t : Vec Ideal S1x1x1024 .i32)
    (old : Vec Ideal S1x15 .f32) (j : Fin 15)
    (hb : ∀ s : Fin 2, b (ix2 s j) = Ideal.ofBits .f32 (lit0 (S2x15.rowMajor (ix2 s j)))) :
    plus old (gain q b x t) (ix2 0 j)
      = old (ix2 0 j) + ∑ r : Fin 1024, kterm q j (fun k => x (ix2 r k)) (t (ix3 0 0 r)) := by
  match q with
  | 0 =>
    pointwise [plus, gain]
    exact congrArg _ (Finset.sum_congr rfl fun r _ => by rw [member_apply b x r j hb]; rfl)
  | 1 =>
    pointwise [plus, gain]
    exact congrArg _ (Finset.sum_congr rfl fun r _ => by rw [member_apply b x r j hb, conf_apply]; rfl)
  | 2 =>
    pointwise [plus, gain]
    exact congrArg _ (Finset.sum_congr rfl fun r _ => by rw [member_apply b x r j hb, hit_apply]; rfl)

/-- The scratch rows start at zero. -/
theorem start_apply (q : Fin 3) (j : Fin 15) : rowOf (F := Ideal) q (k0_pay2 (F := Ideal)) (ix2 0 j) = 0 := by
  match q with
  | 0 | 1 | 2 => pointwise [k0_pay2]

/-- What the kernel sums for scratch row `q` and bin `j`, at row `i` of the arguments. -/
def kcol (q : Fin 3) (j : ℕ) (x : Vec Ideal S16384x1000 .f32) (t : Vec Ideal S16384 .i32) (i : Fin 16384) : EReal :=
  kterm q j (rowAt x i) (t (ix1 i))

open Idealize.SL.Sem Idealize.ShloMosaic.TcCoe

variable (m : (ℓ : Loc nD τ sig) → Buf (Elt Ideal) ℓ) (c : Dev nD)

/-- The logits and the targets, at their shapes. -/
abbrev logits : Vec Ideal S16384x1000 .f32 := m ((c : Thread nD τ).loc main_arg0)
abbrev labels : Vec Ideal S16384 .i32 := m ((c : Thread nD τ).loc main_arg1)

/-- One block's totals at a bin, over the rows it holds. -/
theorem block_apply (q : Fin 3) (t : Fin cfg0.N) (k : Fin 4) (old : Vec Ideal S1x15 .f32) (j : Fin 15) :
    plus old (gain q (KernelFold.bblk m c t) (KernelFold.xblk m c t k) (KernelFold.tblk m c t k)) (ix2 0 j)
      = old (ix2 0 j) + ∑ r, kcol q j (logits m c) (labels m c) (KernelFold.pos t k r) := by
  rw [plus_apply _ _ _ _ _ _ fun s => KernelFold.bblk_apply m c t s j]
  refine congrArg _ (Finset.sum_congr rfl fun r _ => ?_)
  unfold kcol
  rw [KernelFold.tblk_apply]
  exact congrArg (fun x => kterm q j x _) (funext fun l => KernelFold.xblk_apply m c t k r l)

/-- One point's totals at a bin. -/
theorem step_apply (q : Fin 3) (t : Fin cfg0.N) (old : Vec Ideal S1x15 .f32) (j : Fin 15) :
    KernelFold.step m c q t old (ix2 0 j)
      = old (ix2 0 j) + ∑ r, kcol q j (logits m c) (labels m c) (KernelFold.pos t 0 r)
        + ∑ r, kcol q j (logits m c) (labels m c) (KernelFold.pos t 1 r)
        + ∑ r, kcol q j (logits m c) (labels m c) (KernelFold.pos t 2 r)
        + ∑ r, kcol q j (logits m c) (labels m c) (KernelFold.pos t 3 r) := by
  unfold KernelFold.step next
  rw [block_apply, block_apply, block_apply, block_apply]

/-- A scratch row at a bin after all points: the sum over all rows of the logits. -/
theorem total_apply (q : Fin 3) (j : Fin 15) :
    KernelFold.total m c q (ix2 0 j) = ∑ i : Fin 16384, kcol q j (logits m c) (labels m c) i := by
  generalize hh : kcol q j (logits m c) (labels m c) = h
  unfold KernelFold.total
  rw [step_apply, step_apply, step_apply, step_apply, start_apply, hh, sum_points]

end Kernel

end Cert.Equal

end
-- ==== Proof.EqualRef.lean ====
module

public import proofs.«01_k».proof.Proof.EqualBase
public import proofs.«01_k».proof.Proof.RefMain
public import Idealize.ShloMosaic.Lib.Pointwise

@[expose] public section

/-! The reference's values over the extended reals, row by row and bin by bin. -/

set_option maxRecDepth 16384

noncomputable section

namespace Cert.Equal

open Idealize.ShloMosaic

/-! ## The first largest entry of a row -/

section Largest

variable {n0 n1 : ℕ} {β : Type} (x : (⟨2, ![n0, n1]⟩ : Shape).Idx → EReal) (y : (⟨2, ![n0, n1]⟩ : Shape).Idx → β)
  (h : (⟨2, ![n0, n1]⟩ : Shape).ReducesTo [1] ⟨1, ![n0]⟩)

/-- The pairs a row's search runs through: the row's entries with their labels. -/
theorem mem_fiber (i : Fin n0) (q : EReal × β) :
    q ∈ Host.argReduceFiber x y h (ix1 i) ↔ ∃ k : Fin n1, q = (x (ix2 i k), y (ix2 i k)) := by
  unfold Host.argReduceFiber
  simp only [List.mem_map, List.mem_filter, List.mem_finRange, true_and, decide_eq_true_eq, h.fiber_r2_a1]
  constructor
  · rintro ⟨n, ⟨k, hk⟩, rfl⟩
    exact ⟨k, by rw [← hk]; rfl⟩
  · rintro ⟨k, rfl⟩
    exact ⟨(⟨2, ![n0, n1]⟩ : Shape).rowMajor (ix2 i k), ⟨k, by rw [Equiv.symm_apply_apply]; rfl⟩, by rw [Equiv.symm_apply_apply]⟩

/-- A search of a row with one largest entry, started below it, ends at that entry. -/
theorem search_eq {u : Shape} {f : EReal × β → EReal × β → EReal × β} (hf : Rows.IsStep f) (ix : u.Idx → EReal) (iy : u.Idx → β)
    (hu : 0 < u.numel) (i : Fin n0) (c : Fin n1) (hlt : ∀ k, k ≠ c → x (ix2 i k) < x (ix2 i c))
    (hbot : ix (Shape.Idx.first hu) < x (ix2 i c)) :
    Host.argReduce (F := Ideal) (φ := .f32) f x y ix iy h hu (ix1 i) = (x (ix2 i c), y (ix2 i c)) := by
  rw [Ideal.argReduce_eq_reduce2, Host.reduce2_eq_foldl_fiber]
  refine Rows.foldl_step hf _ _ (fun q hq => ?_) _ (Or.inr ⟨hbot, (mem_fiber x y h i _).2 ⟨c, rfl⟩⟩)
  obtain ⟨k, rfl⟩ := (mem_fiber x y h i q).1 hq
  by_cases hk : k = c
  · exact Or.inl (by rw [hk])
  · exact Or.inr (hlt k hk)

end Largest

/-! ## The reference's columns -/

section Reference

open Cert.ReferenceIdeal Cert.ReferenceIdeal.Gen RefRun

/-- The reference's search takes the larger value, and a strictly larger one's index. -/
theorem isStep : Rows.IsStep (reducer_argmax_f32_i32 (F := Ideal)) := by
  have hc : ∀ p a b, FloatOps.cmpf (F := Ideal) (φ := .f32) p a b = Ideal.cmp p a b := fun _ _ _ => rfl
  constructor
  · intro a b
    unfold reducer_argmax_f32_i32
    simp only [hc, Ideal.cmp, Scalar.select, IntOp.ori]
    rcases lt_or_ge b.1 a.1 with h | h
    · simp [h, max_eq_left h.le]
    · simp [not_lt.2 h, max_eq_right h]
  · intro a b h
    unfold reducer_argmax_f32_i32
    simp [hc, Ideal.cmp, Scalar.select, IntOp.ori, IntOp.andi, h, h.ne']
  · intro a b h
    unfold reducer_argmax_f32_i32
    simp [hc, Ideal.cmp, Scalar.select, IntOp.ori, IntOp.andi, h, h.ne, not_lt.2 h.le]
  · intro a
    unfold reducer_argmax_f32_i32
    simp [hc, Ideal.cmp, Scalar.select, IntOp.ori, IntOp.andi, IntOp.cmpi]

/-- A row's maximum. -/
theorem rowMax_apply (x : FVec Ideal S16384x1000 .f32) (i : Fin 16384) : rowMax x (ix1 i) = Rows.top (rowAt x i) := by
  pointwise [rowMax]
  rfl

/-- Exponentials shifted by a column. -/
theorem shift_apply (x : FVec Ideal S16384x1000 .f32) (w : FVec Ideal S16384 .f32) (i : Fin 16384) (k : Fin 1000) :
    Host.exp (subf x (alongRow (maximumf (broadcastInDim S16384 ![] bcast_S_S16384 (constant S_ .f32 0xFF800000#32)) w))) (ix2 i k)
      = Ideal.exp (x (ix2 i k) - max (Ideal.ofBits .f32 4286578688#32) (w (ix1 i))) := by
  pointwise [alongRow]

/-- Quotients by the rows' sums. -/
theorem quot_apply (e : FVec Ideal S16384x1000 .f32) (i : Fin 16384) (k : Fin 1000) :
    Host.divf e (alongRow (Host.reduceAdd e (constant S_ .f32 0x00000000#32) reducesTo_S16384x1000_S16384_d1 h_S_)) (ix2 i k)
      = Ideal.div (e (ix2 i k)) (∑ l, e (ix2 i l)) := by
  pointwise [alongRow]

/-- The shifted exponentials, at an index. -/
theorem expd_apply (x : FVec Ideal S16384x1000 .f32) (i : Fin 16384) (k : Fin 1000) :
    expd x (ix2 i k) = Ideal.exp (rowAt x i k - Rows.top (rowAt x i)) := by
  rw [expd, shift_apply, rowMax_apply, Rows.ofBits_bot, max_eq_right bot_le]

/-- The softmax, at an index. -/
theorem probs_apply (x : FVec Ideal S16384x1000 .f32) (i : Fin 16384) (k : Fin 1000) :
    probs x (ix2 i k) = Rows.prob (rowAt x i) k := by
  rw [probs, quot_apply, expd_apply, Finset.sum_congr rfl fun l _ => expd_apply x i l, Rows.prob, Rows.mass]

/-- The reference's confidence of a row. -/
theorem conf_ref (x : FVec Ideal S16384x1000 .f32) (i : Fin 16384) : confOf x (ix1 i) = Rows.rconf (rowAt x i) := by
  rw [confOf, rowMax_apply, show rowAt (probs x) i = Rows.prob (rowAt x i) from funext (probs_apply x i), Rows.top, Rows.rconf]

/-- One where two integer columns agree. -/
theorem same_apply (p t : IVec S16384 32) (i : Fin 16384) :
    (uitofp .f32 (cmpi .eq p t) : FVec Ideal S16384 .f32) (ix1 i) = ind (p (ix1 i) = t (ix1 i)) := by
  refine Eq.trans ?_ (uitofp_ind _)
  show FloatOps.uitofp (F := Ideal) .f32 (IntOp.cmpi .eq (p (ix1 i)) (t (ix1 i))) = _
  congr 1

/-- Whether the reference's prediction is the target. -/
theorem hit_ref (x : FVec Ideal S16384x1000 .f32) (t : IVec S16384 32) (i : Fin 16384) :
    hitOf x t (ix1 i) = ind (predOf x (ix1 i) = t (ix1 i)) := by
  rw [hitOf, same_apply]

/-! ## The reference's bins -/

/-- What the reference sums for bin `j` at one row: membership, confidence in the bin, hit in the bin. -/
def rterm (q : Fin 3) (j : ℕ) (conf hit : EReal) : EReal :=
  match q with
  | 0 => ind (InBin j conf)
  | 1 => conf * ind (InBin j conf)
  | 2 => hit * ind (InBin j conf)

/-- One bin's term out of its three totals. -/
def share (n a b : EReal) : EReal :=
  if 0 < n then FloatOps.absf (F := Ideal) (φ := .f32) (Ideal.div a (max n 1) - Ideal.div b (max n 1))
    * Ideal.div n (Ideal.ofBits .f32 1182793728#32) else 0

/-- Membership of a row in a bin. -/
theorem inBin_apply (j : ℕ) (conf : FVec Ideal S16384 .f32) (i : Fin 16384) :
    inBin (bound j) (bound (j + 1)) conf (ix1 i) = ind (InBin j (conf (ix1 i))) := by
  pointwise [inBin]
  rw [andi_ofBool]
  refine (uitofp_ind _).trans ?_
  unfold ind InBin
  congr

/-- A column's sum. -/
theorem total_ref (v : FVec Ideal S16384 .f32) : total v ix0 = ∑ i : Fin 16384, v (ix1 i) := by
  pointwise [total]

/-- A bin's term, out of the memberships. -/
theorem term_apply (lo hi : BitVec 32) (conf hit : FVec Ideal S16384 .f32) :
    binTerm lo hi conf hit ix0 = share (total (inBin lo hi conf) ix0) (total (mulf conf (inBin lo hi conf)) ix0)
      (total (mulf hit (inBin lo hi conf)) ix0) := by
  unfold binTerm
  generalize total (inBin lo hi conf) = n
  generalize total (mulf conf (inBin lo hi conf)) = a
  generalize total (mulf hit (inBin lo hi conf)) = b
  pointwise
  unfold share
  rfl

/-- A bin's term, out of its three totals over the rows. -/
theorem bin_apply (j : ℕ) (conf hit : FVec Ideal S16384 .f32) :
    binTerm (bound j) (bound (j + 1)) conf hit ix0
      = share (∑ i, rterm 0 j (conf (ix1 i)) (hit (ix1 i))) (∑ i, rterm 1 j (conf (ix1 i)) (hit (ix1 i)))
          (∑ i, rterm 2 j (conf (ix1 i)) (hit (ix1 i))) := by
  have hm : ∀ (v : FVec Ideal S16384 .f32) (i : Fin 16384),
      mulf v (inBin (bound j) (bound (j + 1)) conf) (ix1 i) = v (ix1 i) * ind (InBin j (conf (ix1 i))) := fun v i => by
    rw [← inBin_apply]; rfl
  rw [term_apply, total_ref, total_ref, total_ref, Finset.sum_congr rfl fun i _ => inBin_apply j conf i,
    Finset.sum_congr rfl fun i _ => hm conf i, Finset.sum_congr rfl fun i _ => hm hit i]
  rfl

/-- The first `n` bins' sum. -/
theorem sumOf_apply (conf hit : FVec Ideal S16384 .f32) (n : ℕ) :
    sumOf conf hit n (ix1 0) = ∑ j : Fin n, binTerm (bound j) (bound (j + 1)) conf hit ix0 := by
  induction n with
  | zero => pointwise [sumOf]; simp
  | succ n ih =>
    rw [Fin.sum_univ_castSucc, sumOf]
    have hb : ∀ (a : FVec Ideal S1 .f32) (b : FVec Ideal S_ .f32), addf a (broadcastInDim S1 ![] bcast_S_S1 b) (ix1 0) = a (ix1 0) + b ix0 := by
      intro a b
      pointwise
    rw [hb, ih]
    rfl

/-- The reference's result at its one index. -/
theorem result_apply (x : FVec Ideal S16384x1000 .f32) (t : IVec S16384 32) :
    resultOf x t (ix2 0 0) = ∑ j : Fin 15, binTerm (bound j) (bound (j + 1)) (confOf x) (hitOf x t) ix0 := by
  have hs : ∀ v : FVec Ideal S1 .f32, shapeCast S1x1 v shapeCasts_S1_S1x1 (ix2 0 0) = v (ix1 0) := by
    intro v
    pointwise
  rw [resultOf, hs, sumOf_apply]

end Reference

end Cert.Equal

end
-- ==== Proof.EqualPred.lean ====
module

public import proofs.«01_k».proof.Proof.EqualRef

@[expose] public section

/-! The reference's predictions over the extended reals. -/

set_option maxRecDepth 16384

noncomputable section

namespace Cert.Equal

open Idealize.ShloMosaic Cert.ReferenceIdeal Cert.ReferenceIdeal.Gen RefRun

/-- The reference's search of all rows. -/
def search (p : FVec Ideal S16384x1000 .f32) : S16384.Idx → EReal × BitVec 32 :=
  Host.argReduce (F := Ideal) (φ := .f32) reducer_argmax_f32_i32 p (iotaInDim S16384x1000 32 1) (constant S_ .f32 0xFF800000#32)
    (constantI S_ 32 0#32) reducesTo_S16384x1000_S16384_d1 h_S_

/-- The search of a row whose entries are known and have one largest. -/
theorem search_row (p : FVec Ideal S16384x1000 .f32) (i : Fin 16384) (g : Fin 1000 → EReal) (hg : ∀ k, p (ix2 i k) = g k)
    (c : Fin 1000) (hlt : ∀ k, k ≠ c → g k < g c) (hbot : g c ≠ ⊥) :
    search p (ix1 i) = (p (ix2 i c), iotaInDim S16384x1000 32 1 (ix2 i c)) := by
  have hb : constant (F := Ideal) S_ .f32 0xFF800000#32 (Shape.Idx.first h_S_) < p (ix2 i c) := by
    show Ideal.ofBits .f32 4286578688#32 < _
    rw [Rows.ofBits_bot, hg]
    exact bot_lt_iff_ne_bot.2 hbot
  exact search_eq p (iotaInDim S16384x1000 32 1) reducesTo_S16384x1000_S16384_d1 isStep _ _ h_S_ i c
    (fun k hk => by rw [hg, hg]; exact hlt k hk) hb

/-- The reference's predictions are the indices that search brings along. -/
theorem predOf_eq (x : FVec Ideal S16384x1000 .f32) : predOf x = fun j => (search (probs x) j).2 := rfl

/-- The index at a row, of a search whose pair at the row is known. -/
theorem index_eq {w : IVec S16384 32} {G : S16384.Idx → EReal × BitVec 32} (h : w = fun j => (G j).2) {i : Fin 16384}
    {a : EReal} {b : BitVec 32} (hG : G (ix1 i) = (a, b)) : w (ix1 i) = b := by
  subst h
  show (G (ix1 i)).2 = b
  rw [hG]

/-- The reference's prediction of a row with one largest quotient. -/
theorem pred_ref (x : FVec Ideal S16384x1000 .f32) (i : Fin 16384) (c : Fin 1000)
    (h : ∀ k, k ≠ c → Rows.prob (rowAt x i) k < Rows.prob (rowAt x i) c) (hbot : Rows.prob (rowAt x i) c ≠ ⊥) :
    predOf x (ix1 i) = BitVec.ofNat 32 c :=
  (index_eq (predOf_eq x) (search_row (probs x) i _ (probs_apply x i) c h hbot)).trans rfl

end Cert.Equal

end
-- ==== Proof.Equal.lean ====
module

public import proofs.«01_k».proof.Proof.EqualKernel
public import proofs.«01_k».proof.Proof.EqualPred
public import proofs.«01_k».proof.Proof.Gen.Pre_one_largest

@[expose] public section

/-! The kernel's result is the reference's when every row of the logits has one largest entry. -/

set_option maxRecDepth 16384

noncomputable section

namespace Cert.Equal

open Idealize.ShloMosaic

/-! ## One row -/

/-- The indicators of equivalent statements are equal. -/
theorem ind_congr {p q : Prop} [Decidable p] [Decidable q] (h : p ↔ q) : ind p = ind q := by
  unfold ind
  by_cases hp : p
  · rw [if_pos hp, if_pos (h.1 hp)]
  · rw [if_neg hp, if_neg fun hq => hp (h.2 hq)]

/-- An indicator of a false statement. -/
theorem ind_false {p : Prop} [Decidable p] (h : ¬p) : ind p = 0 := if_neg h

/-- At a row with one largest logit the kernel and the reference sum the same. -/
theorem row_eq (q : Fin 3) (j : Fin 15) (x : FVec Ideal Cert.ReferenceIdeal.S16384x1000 .f32) (t : IVec Cert.ReferenceIdeal.S16384 32) (i : Fin 16384)
    (hx : ∃ c, ∀ k, rowAt x i k = Rows.top (rowAt x i) ↔ k = c) :
    kcol q j x t i = rterm q j (RefRun.confOf x (ix1 i)) (RefRun.hitOf x t (ix1 i)) := by
  obtain ⟨c, hc⟩ := hx
  rw [conf_ref, hit_ref]
  unfold kcol
  rcases Rows.agree (by norm_num) hc with ⟨h1, h2, h3⟩ | ⟨h1, h2⟩
  · rw [h1, pred_ref x i c h2 h3, ← ind_congr (Rows.khit_iff (by norm_num) hc (t (ix1 i)))]
    match q with
    | 0 => rfl
    | 1 => exact mul_comm _ _
    | 2 => exact mul_comm _ _
  · have hk : ind (InBin j ⊤) = 0 := ind_false (not_inBin_top j)
    have hr : ind (InBin j ⊥) = 0 := ind_false (not_inBin_bot j)
    match q with
    | 0 => simp only [kterm, rterm, h1, h2, hk, hr]
    | 1 => simp only [kterm, rterm, h1, h2, hk, hr, zero_mul, mul_zero]
    | 2 => simp only [kterm, rterm, h1, h2, hk, hr, zero_mul, mul_zero]

/-! ## The precondition -/

/-- The precondition says that every row has one largest entry. -/
theorem one_largest (x : FVec Ideal Cert.ReferenceIdeal.S16384x1000 .f32) (t : IVec Cert.ReferenceIdeal.S16384 32)
    (h : Cert.Pre_one_largest.fn (F := Ideal) x t = fun _ => 1#1) (i : Fin 16384) :
    ∃ c, ∀ k, rowAt x i k = Rows.top (rowAt x i) ↔ k = c := by
  refine Rows.unique_of_count (x := rowAt x i) ?_
  have hi := congrFun h (ix1 i)
  refine Eq.trans ?_ hi
  symm
  pointwise [Cert.Pre_one_largest.fn]
  rfl

/-! ## The result -/

section Result

open Cert.KernelIdeal Cert.KernelIdeal.Gen Cert.KernelRows

/-- The kernel's last step: the bins' terms out of the three rows of totals. -/
theorem last_apply (a b d : Vec Ideal S1x15 .f32) :
    k0_pay1 a b d (ix2 0 0) = ∑ j : Fin 15, share (a (ix2 0 j)) (b (ix2 0 j)) (d (ix2 0 j)) := by
  pointwise [k0_pay1]
  refine Finset.sum_congr rfl fun j _ => ?_
  unfold share
  rw [weight]

open Idealize.SL.Sem Idealize.ShloMosaic.TcCoe

/-- The kernel's result is the reference's. -/
theorem result_eq (m : (ℓ : Loc nD τ sig) → Buf (Elt Ideal) ℓ) (c : Dev nD)
    (h : Cert.Pre_one_largest.fn (F := Ideal) (logits m c) (labels m c) = fun _ => 1#1) :
    Value.G9 m c = RefRun.resultOf (F := Ideal) (logits m c) (labels m c) := by
  have hone := one_largest _ _ h
  have hi : ∀ i : S1x1.Idx, i = ix2 0 0 := fun i => by
    funext d
    apply Fin.ext
    match d with
    | ⟨0, _⟩ => exact Nat.lt_one_iff.1 (i 0).isLt
    | ⟨1, _⟩ => exact Nat.lt_one_iff.1 (i 1).isLt
  have key : k0_pay1 (KernelFold.total m c 0) (KernelFold.total m c 1) (KernelFold.total m c 2) (ix2 0 0)
      = RefRun.resultOf (F := Ideal) (logits m c) (labels m c) (ix2 0 0) := by
    rw [last_apply, result_apply]
    refine Finset.sum_congr rfl fun j _ => ?_
    rw [bin_apply, total_apply, total_apply, total_apply]
    have hs : ∀ q : Fin 3, ∑ i, kcol q j (logits m c) (labels m c) i = _ := fun q =>
      Finset.sum_congr rfl fun i _ => row_eq q j (logits m c) (labels m c) i (hone i)
    rw [hs 0, hs 1, hs 2]
  rw [KernelFold.result_eq]
  funext i
  rw [hi i]
  exact key

end Result

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_largest
public import proofs.«01_k».proof.Proof.Gen.KernelIdeal.Value
public import proofs.«01_k».proof.Proof.RefMain
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference ends with its arguments as they were and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => ⟨(h c).2.1, (h c).2.2⟩, sem_eq_zero_of_no_sems (by decide) r.2⟩) (Cert.RefRun.run m ρ)

/-- From memories with the same arguments, every row of the logits with one largest entry, the kernel and the
reference end with the same result. -/
theorem algebraic : Cert.algebraic_KernelIdeal_ReferenceIdeal_pre_one_largest := by
  intro m ρ m' ρ' hpre harg
  refine ⟨fun c => Cert.KernelIdeal.Value.G9 m c, Cert.KernelIdeal.Value.run m ρ, ?_⟩
  refine (θ_run _ _ _).mono (fun r h c => ⟨(h c).1.trans ?_, (h c).2⟩) (Cert.RefRun.run m' ρ')
  refine Eq.trans ?_ (Cert.Equal.result_eq m c (hpre c)).symm
  exact congrArg₂ Cert.RefRun.resultOf (harg c).1 (harg c).2

/-- Everything that is claimed. -/
theorem claim : Cert.Claim :=
  ⟨Cert.Kernel.Gen.facts, Cert.KernelIdeal.Gen.facts, Cert.ReferenceIdeal.Gen.facts, Cert.Pre_one_largest.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, algebraic⟩

end Cert.Proof

end
